-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1920x2048 : Shape := ⟨3, ![8, 1920, 2048]⟩
abbrev S2048x5632 : Shape := ⟨2, ![2048, 5632]⟩
abbrev S5632 : Shape := ⟨1, ![5632]⟩
abbrev S15360x2048 : Shape := ⟨2, ![15360, 2048]⟩
abbrev S1x5632 : Shape := ⟨2, ![1, 5632]⟩
abbrev S15360x5632 : Shape := ⟨2, ![15360, 5632]⟩
abbrev S8x1920 : Shape := ⟨2, ![8, 1920]⟩
abbrev S512x2048 : Shape := ⟨2, ![512, 2048]⟩
abbrev S2048x1408 : Shape := ⟨2, ![2048, 1408]⟩
abbrev S1x1408 : Shape := ⟨2, ![1, 1408]⟩
abbrev S512x1408 : Shape := ⟨2, ![512, 1408]⟩
abbrev S4x2048x1408 : Shape := ⟨3, ![4, 2048, 1408]⟩
abbrev S512x128 : Shape := ⟨2, ![512, 128]⟩
abbrev S120x128 : Shape := ⟨2, ![120, 128]⟩
abbrev S1x2048x1408 : Shape := ⟨3, ![1, 2048, 1408]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S512x1024 : Shape := ⟨2, ![512, 1024]⟩
abbrev S1x1024x1408 : Shape := ⟨3, ![1, 1024, 1408]⟩
abbrev S1024x1408 : Shape := ⟨2, ![1024, 1408]⟩
abbrev S8x1920x5632 : Shape := ⟨3, ![8, 1920, 5632]⟩

abbrev nBuf : Space → Nat
  | .hbm => 10
  | .vmem => 15
  | .smem => 0
  | _ => 0

abbrev bufTy : (tb : Table) → Fin (tcTables nBuf tb) → BufTy
  | .hbm, ⟨0, _⟩ => ⟨S8x1920x2048, .bf16⟩
  | .hbm, ⟨1, _⟩ => ⟨S2048x5632, .i8⟩
  | .hbm, ⟨2, _⟩ => ⟨S5632, .f32⟩
  | .hbm, ⟨3, _⟩ => ⟨S15360x2048, .bf16⟩
  | .hbm, ⟨4, _⟩ => ⟨S1x5632, .f32⟩
  | .hbm, ⟨5, _⟩ => ⟨S15360x5632, .bf16⟩
  | .hbm, ⟨6, _⟩ => ⟨S15360x2048, .i8⟩
  | .hbm, ⟨7, _⟩ => ⟨S8x1920, .f32⟩
  | .hbm, ⟨8, _⟩ => ⟨S8x1920x5632, .bf16⟩
  | .hbm, ⟨9, _⟩ => ⟨S8x1920x2048, .i8⟩
  | .local _ .vmem, ⟨0, _⟩ => ⟨S512x2048, .bf16⟩
  | .local _ .vmem, ⟨1, _⟩ => ⟨S512x2048, .bf16⟩
  | .local _ .vmem, ⟨2, _⟩ => ⟨S2048x1408, .i8⟩
  | .local _ .vmem, ⟨3, _⟩ => ⟨S2048x1408, .i8⟩
  | .local _ .vmem, ⟨4, _⟩ => ⟨S1x1408, .f32⟩
  | .local _ .vmem, ⟨5, _⟩ => ⟨S1x1408, .f32⟩
  | .local _ .vmem, ⟨6, _⟩ => ⟨S512x1408, .bf16⟩
  | .local _ .vmem, ⟨7, _⟩ => ⟨S512x1408, .bf16⟩
  | .local _ .vmem, ⟨8, _⟩ => ⟨S512x2048, .i8⟩
  | .local _ .vmem, ⟨9, _⟩ => ⟨S512x2048, .i8⟩
  | .local _ .vmem, ⟨10, _⟩ => ⟨S8x1920, .f32⟩
  | .local _ .vmem, ⟨11, _⟩ => ⟨S4x2048x1408, .bf16⟩
  | .local _ .vmem, ⟨12, _⟩ => ⟨S512x2048, .bf16⟩
  | .local _ .vmem, ⟨13, _⟩ => ⟨S512x128, .f32⟩
  | .local _ .vmem, ⟨14, _⟩ => ⟨S120x128, .f32⟩
  | _, _ => ⟨S8x1920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![30, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v33 : Index := Scalar.indexCast arg1
  let c0_20 : Index := 0#32
  let c0_21 : Index := 0#32
  ![v33.toNat, 0, 0]
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_off2 (i : grid0.Coords) (c0_i32_34 : BitVec 32) : Fin 2 → Nat :=
  let arg0 : BitVec 32 := BitVec.ofNat 32 (i 0).val
  let c512_i32 : BitVec 32 := 512#32
  let v31 : BitVec 32 := Scalar.muli arg0 c512_i32
  let v69 : BitVec 32 := Scalar.addi v31 c0_i32_34
  let c0_i32_35 : BitVec 32 := 0#32
  let v71 : BitVec 1 := Scalar.cmpi .sgt v69 c0_i32_35
  let v72 : BitVec 32 := Scalar.extui v71
  let c0_i32_36 : BitVec 32 := 0#32
  let v73 : BitVec 1 := Scalar.cmpi .slt v69 c0_i32_36
  let v74 : BitVec 32 := Scalar.extui v73
  let v75 : BitVec 32 := Scalar.subi v72 v74
  let c128_i32 : BitVec 32 := 128#32
  let c0_i32_37 : BitVec 32 := 0#32
  let v76 : BitVec 1 := Scalar.cmpi .sgt c128_i32 c0_i32_37
  let v77 : BitVec 32 := Scalar.extui v76
  let c0_i32_38 : BitVec 32 := 0#32
  let v78 : BitVec 1 := Scalar.cmpi .slt c128_i32 c0_i32_38
  let v79 : BitVec 32 := Scalar.extui v78
  let v80 : BitVec 32 := Scalar.subi v77 v79
  let v81 : BitVec 1 := Scalar.cmpi .ne v75 v80
  let v82 : BitVec 32 := Scalar.remsi v69 c128_i32
  let c0_i32_39 : BitVec 32 := 0#32
  let v83 : BitVec 1 := Scalar.cmpi .ne v82 c0_i32_39
  let v84 : BitVec 1 := Scalar.andi v81 v83
  let v70 : BitVec 32 := Scalar.divsi v69 c128_i32
  let c1_i32 : BitVec 32 := 1#32
  let v85 : BitVec 32 := Scalar.subi v70 c1_i32
  let v86 : BitVec 32 := Scalar.select v84 v85 v70
  let v87 : Index := Scalar.indexCast v86
  let c0_40 : Index := 0#32
  ![v87.toNat, 0]
def k0_off3 (i : grid0.Coords) : Fin 3 → Nat :=
  let arg1 : BitVec 32 := BitVec.ofNat 32 (i 1).val
  let v12 : Index := Scalar.indexCast arg1
  let c0_6 : Index := 0#32
  let c0_7 : Index := 0#32
  ![v12.toNat, 0, 0]
def k0_off4 (i : grid0.Coords) : Fin 3 → Nat :=
  let arg1 : BitVec 32 := BitVec.ofNat 32 (i 1).val
  let v17 : Index := Scalar.indexCast arg1
  let c1024_9 : Index := 1024#32
  let c0_10 : Index := 0#32
  ![v17.toNat, 1024, 0]
def k0_cond3 (i : grid0.Coords) : BitVec 1 :=
  let arg0 : BitVec 32 := BitVec.ofNat 32 (i 0).val
  let c29_i32 : BitVec 32 := 29#32
  let v6 : BitVec 1 := Scalar.cmpi .eq arg0 c29_i32
  let arg1 : BitVec 32 := BitVec.ofNat 32 (i 1).val
  let c0_i32_3 : BitVec 32 := 0#32
  let v7 : BitVec 1 := Scalar.cmpi .eq arg1 c0_i32_3
  let v8 : BitVec 1 := Scalar.andi v6 v7
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1408 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S8x1920x2048 : Shape := ⟨3, ![8, 1920, 2048]⟩
abbrev S2048x5632 : Shape := ⟨2, ![2048, 5632]⟩
abbrev S5632 : Shape := ⟨1, ![5632]⟩
abbrev S8x1920x5632 : Shape := ⟨3, ![8, 1920, 5632]⟩
abbrev S8x1920 : Shape := ⟨2, ![8, 1920]⟩
abbrev S8x1920x1 : Shape := ⟨3, ![8, 1920, 1]⟩
abbrev S8x1920x4x512 : Shape := ⟨4, ![8, 1920, 4, 512]⟩
abbrev S4x512x5632 : Shape := ⟨3, ![4, 512, 5632]⟩
abbrev S4x5632x8x1920 : Shape := ⟨4, ![4, 5632, 8, 1920]⟩
abbrev S8x1920x4x5632 : Shape := ⟨4, ![8, 1920, 4, 5632]⟩
abbrev S1x1x5632 : Shape := ⟨3, ![1, 1, 5632]⟩

abbrev nBuf : Space → Nat
  | .hbm => 6
  | .vmem => 6
  | .smem => 0
  | _ => 0

abbrev bufTy : (tb : Table) → Fin (tcTables nBuf tb) → BufTy
  | .hbm, ⟨0, _⟩ => ⟨S8x1920x2048, .bf16⟩
  | .hbm, ⟨1, _⟩ => ⟨S2048x5632, .i8⟩
  | .hbm, ⟨2, _⟩ => ⟨S5632, .f32⟩
  | .hbm, ⟨3, _⟩ => ⟨S8x1920x5632, .bf16⟩
  | .hbm, ⟨4, _⟩ => ⟨S8x1920x2048, .i8⟩
  | .hbm, ⟨5, _⟩ => ⟨S8x1920, .f32⟩
  | .local _ .vmem, ⟨0, _⟩ => ⟨S8x1920x2048, .bf16⟩
  | .local _ .vmem, ⟨1, _⟩ => ⟨S2048x5632, .i8⟩
  | .local _ .vmem, ⟨2, _⟩ => ⟨S5632, .f32⟩
  | .local _ .vmem, ⟨3, _⟩ => ⟨S8x1920x5632, .bf16⟩
  | .local _ .vmem, ⟨4, _⟩ => ⟨S8x1920x2048, .i8⟩
  | .local _ .vmem, ⟨5, _⟩ => ⟨S8x1920, .f32⟩
  | _, _ => ⟨S8x1920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x1920x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x5632 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1920x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1920x2048 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Runs.lean ====
/-
  What the hand-written frame of the kernel's program is stated over: the body's three branch conditions in closed form
  over the grid points, the staging and scratch memrefs, and the class invariant opened into the four scratch buffers.
-/
module

public import proofs.«01_k».proof.Proof.Gen.KernelIdeal
public import proofs.«01_k».proof.Proof.Gen.KernelIdeal.Skeleton
public import proofs.«01_k».proof.Proof.Gen.KernelIdeal.Frame
public import Idealize.ShloMosaic.Lib.WordCmp
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 4 — by arithmetic of the point. -/
theorem hcond0_0 : ∀ t : Fin cfg0.N, cond0_0 (grid0.coords t) ↔ t.val < 4 :=
  (fun t => by
    have ht : t.val < 120 := Nat.lt_of_lt_of_eq t.isLt N_0
    have e0 : (grid0.coords t 0).val = t.val / 4 % 30 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val < 4)

/-- The condition of the body's `scf.if` 1 (`k0_h2`), from the grid coordinates (the skeleton's scalar
    chain substituted). -/
abbrev cond0_1 (i : grid0.Coords) : Prop := k0_cond2 i = 1#1
/-- It holds at the points ≡ 0 (mod 4) — by arithmetic of the point. -/
theorem hcond0_1 : ∀ t : Fin cfg0.N, cond0_1 (grid0.coords t) ↔ t.val % 4 = 0 :=
  (fun t => by
    have ht : t.val < 120 := Nat.lt_of_lt_of_eq t.isLt N_0
    have e0 : (grid0.coords t 0).val = t.val / 4 % 30 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at point 116 only — by arithmetic of the point. -/
theorem hcond0_2 : ∀ t : Fin cfg0.N, cond0_2 (grid0.coords t) ↔ t.val % 120 = 116 :=
  (fun t => by
    have ht : t.val < 120 := Nat.lt_of_lt_of_eq t.isLt N_0
    have e0 : (grid0.coords t 0).val = t.val / 4 % 30 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 120 = 116)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1408 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1408 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1408 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1920 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S4x2048x1408 .bf16 := Memref.whole cc0_scratch0
abbrev scM0_1 : Memref sig .tc .vmem S512x2048 .bf16 := Memref.whole cc0_scratch1
abbrev scM0_2 : Memref sig .tc .vmem S512x128 .f32 := Memref.whole cc0_scratch2
abbrev scM0_3 : Memref sig .tc .vmem S120x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.Blocks.lean ====
/-
  The closed forms of what the kernel's body leaves in its buffers, as functions of the blocks it reads and of the
  scratch contents it finds: the quantised block (codes, codes as floats, scales), the stacked weight, the table of
  scale rows, the assembled scales and the output block. And, for each, the lemma that reads the body's stores back as
  that closed form.
-/
module

public import proofs.«01_k».proof.Proof.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The closed forms -/

/-- Row group `g` (rows `128 g … 128 g + 127`) of a block of 512 rows. -/
def rows128 (x0 : Vec F S512x2048 .bf16) (g : Fin 4) : Vec F S128x2048 .bf16 :=
  fun y => x0 (ix2 ⟨128 * g.val + (y 0).val, by have := (y 0).isLt; have := g.isLt; change (y 0).val < 128 at *; omega⟩ ⟨(y 1).val, (y 1).isLt⟩)

/-- A block of 512 rows computed group by group of 128 rows, by the same function `P` of the group. -/
def tiled {e : EltTy} {n : ℕ} (P : Vec F S128x2048 .bf16 → (⟨2, ![128, n]⟩ : Shape).Idx → Elt F e) (x0 : Vec F S512x2048 .bf16) :
    (⟨2, ![512, n]⟩ : Shape).Idx → Elt F e :=
  fun y => P (rows128 x0 ⟨(y 0).val / 128, by have := (y 0).isLt; change (y 0).val < 512 at this; omega⟩)
    (ix2 ⟨(y 0).val % 128, Nat.mod_lt _ (by decide)⟩ ⟨(y 1).val, (y 1).isLt⟩)

/-- The codes of a block. -/
def codesB (x0 : Vec F S512x2048 .bf16) : Vec F S512x2048 .i8 := tiled (e := .i8) (n := 2048) k0_pay4 x0
/-- The same codes as floats. -/
def xqB (x0 : Vec F S512x2048 .bf16) : Vec F S512x2048 .bf16 := tiled (e := .bf16) (n := 2048) k0_pay5 x0
/-- The scales of a block, each repeated over 128 columns. -/
def scB (x0 : Vec F S512x2048 .bf16) : Vec F S512x128 .f32 := tiled (e := .f32) (n := 128) k0_pay7 x0
/-- The scales of a row group as one row of 128 numbers. -/
def rowG (x : Vec F S128x2048 .bf16) : Vec F S1x128 .f32 := k0_pay9 (k0_pay8 x)

/-- Slab `j` of the stacked weight replaced by the weight block `x1`, converted. -/
def wbStep (j : ℕ) (x1 : Vec F S2048x1408 .i8) (S0 : Vec F S4x2048x1408 .bf16) : Vec F S4x2048x1408 .bf16 :=
  fun y => if (y 0).val = j then k0_pay35 x1 (ix3 0 ⟨(y 1).val, (y 1).isLt⟩ ⟨(y 2).val, (y 2).isLt⟩) else S0 y

/-- Rows `4 i … 4 i + 3` of the table of scale rows replaced by the block's. -/
def rowsStep (i : ℕ) (x0 : Vec F S512x2048 .bf16) (S3 : Vec F S120x128 .f32) : Vec F S120x128 .f32 :=
  fun y => if (y 0).val / 4 = i then rowG (rows128 x0 ⟨(y 0).val % 4, Nat.mod_lt _ (by decide)⟩) (ix2 0 ⟨(y 1).val, (y 1).isLt⟩) else S3 y

/-- The scales assembled from the table: row `15 a + b / 128`, column `b % 128`. -/
def xsB (S3 : Vec F S120x128 .f32) : Vec F S8x1920 .f32 :=
  fun y => S3 (ix2 ⟨15 * (y 0).val + (y 1).val / 128, by
    have := (y 0).isLt; have := (y 1).isLt; change (y 0).val < 8 at *; change (y 1).val < 1920 at *; omega⟩ ⟨(y 1).val % 128, Nat.mod_lt _ (by decide)⟩)

/-- The left half of the columns of the codes, -/
def xqL (xq : Vec F S512x2048 .bf16) : Vec F S512x1024 .bf16 :=
  fun y => xq (ix2 ⟨(y 0).val, (y 0).isLt⟩ ⟨(y 1).val, by have := (y 1).isLt; change (y 1).val < 1024 at this; omega⟩)
/-- and the right half. -/
def xqR (xq : Vec F S512x2048 .bf16) : Vec F S512x1024 .bf16 :=
  fun y => xq (ix2 ⟨(y 0).val, (y 0).isLt⟩ ⟨1024 + (y 1).val, by have := (y 1).isLt; change (y 1).val < 1024 at this; omega⟩)
/-- The upper half of the rows of slab `j` of the stacked weight, -/
def wbU (j : Fin 4) (wb : Vec F S4x2048x1408 .bf16) : Vec F S1x1024x1408 .bf16 :=
  fun y => wb (ix3 j ⟨(y 1).val, by have := (y 1).isLt; change (y 1).val < 1024 at this; omega⟩ ⟨(y 2).val, (y 2).isLt⟩)
/-- and the lower half. -/
def wbD (j : Fin 4) (wb : Vec F S4x2048x1408 .bf16) : Vec F S1x1024x1408 .bf16 :=
  fun y => wb (ix3 j ⟨1024 + (y 1).val, by have := (y 1).isLt; change (y 1).val < 1024 at this; omega⟩ ⟨(y 2).val, (y 2).isLt⟩)

/-- The output block: from slab `j` of the stacked weight, the codes, the repeated scales and the weight's scales. -/
def yB (j : Fin 4) (wb : Vec F S4x2048x1408 .bf16) (xq : Vec F S512x2048 .bf16) (sc : Vec F S512x128 .f32) (x2 : Vec F S1x1408 .f32) :
    Vec F S512x1408 .bf16 :=
  k0_pay36 (xqL xq) (wbU j wb) (xqR xq) (wbD j wb) sc x2

/-! ## The four row groups compute the same -/

theorem pay13_eq (x : Vec F S128x2048 .bf16) : k0_pay13 x = k0_pay4 x := rfl
theorem pay21_eq (x : Vec F S128x2048 .bf16) : k0_pay21 x = k0_pay4 x := rfl
theorem pay30_eq (x : Vec F S128x2048 .bf16) : k0_pay30 x = k0_pay4 x := rfl
theorem pay14_eq (x : Vec F S128x2048 .bf16) : k0_pay14 (k0_pay12 x) = k0_pay5 x := rfl
theorem pay22_eq (x : Vec F S128x2048 .bf16) : k0_pay22 x = k0_pay5 x := rfl
theorem pay31_eq (x : Vec F S128x2048 .bf16) : k0_pay31 (k0_pay29 x) = k0_pay5 x := rfl
theorem pay16_eq (x : Vec F S128x2048 .bf16) : k0_pay16 (k0_pay11 x) = k0_pay7 x := rfl
theorem pay24_eq (x : Vec F S128x2048 .bf16) : k0_pay24 x = k0_pay7 x := rfl
theorem pay33_eq (x : Vec F S128x2048 .bf16) : k0_pay33 (k0_pay28 x) = k0_pay7 x := rfl
theorem pay17_eq (x : Vec F S128x2048 .bf16) : k0_pay17 (k0_pay11 x) = rowG x := rfl
theorem pay26_eq (x : Vec F S128x2048 .bf16) : k0_pay26 (k0_pay25 x) = rowG x := rfl
theorem pay34_eq (x : Vec F S128x2048 .bf16) : k0_pay34 (k0_pay28 x) = rowG x := rfl

end Cert.KernelIdeal.Hand

end
-- ==== Proof.Leaves.lean ====
/-
  Reading back what the body stored, and what its loads then read: each list of stores, as the closed form of the block.
-/
module

public import proofs.«01_k».proof.Proof.Blocks
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A function of six arguments at equal arguments. -/
theorem congrArg₆ {A B C D E G H : Type*} (f : A → B → C → D → E → G → H) {a a' b b' c c' d d' e e' g g'} (h1 : a = a') (h2 : b = b')
    (h3 : c = c') (h4 : d = d') (h5 : e = e') (h6 : g = g') : f a b c d e g = f a' b' c' d' e' g' := by
  subst h1 h2 h3 h4 h5 h6; rfl

section leaves

variable {κ : Kind} {sp : Space}

/-- One store over the whole of a two-dimensional block. -/
theorem read_whole2 {e : EltTy} {n k : ℕ} (v : View sig κ sp (⟨2, ![n, k]⟩ : Shape) e) (f : v.ty.Contents (Elt F))
    (inb : ∀ a, (![0, 0] : Fin 2 → ℕ) a + (⟨2, ![n, k]⟩ : Shape).size a ≤ (⟨2, ![n, k]⟩ : Shape).size a)
    (w : (⟨2, ![n, k]⟩ : Shape).Idx → Elt F e) :
    v.read (Elt F) (v.writes (Elt F) f [⟨Rect.unit ![0, 0] (⟨2, ![n, k]⟩ : Shape).size inb, w⟩]) = w := by
  funext y
  exact View.read_writes_cons_unit_of_mem v f inb w [] y y rfl (fun a => by fin_cases a <;> simp)

/-- Four stores of 128 rows each are the block computed group by group. -/
theorem read_tiled {e : EltTy} {n : ℕ} (v : View sig κ sp (⟨2, ![512, n]⟩ : Shape) e) (f : v.ty.Contents (Elt F))
    (P : Vec F S128x2048 .bf16 → (⟨2, ![128, n]⟩ : Shape).Idx → Elt F e) (x0 : Vec F S512x2048 .bf16)
    (i3 : ∀ a, (![384, 0] : Fin 2 → ℕ) a + (⟨2, ![128, n]⟩ : Shape).size a ≤ (⟨2, ![512, n]⟩ : Shape).size a)
    (i2 : ∀ a, (![256, 0] : Fin 2 → ℕ) a + (⟨2, ![128, n]⟩ : Shape).size a ≤ (⟨2, ![512, n]⟩ : Shape).size a)
    (i1 : ∀ a, (![128, 0] : Fin 2 → ℕ) a + (⟨2, ![128, n]⟩ : Shape).size a ≤ (⟨2, ![512, n]⟩ : Shape).size a)
    (i0 : ∀ a, (![0, 0] : Fin 2 → ℕ) a + (⟨2, ![128, n]⟩ : Shape).size a ≤ (⟨2, ![512, n]⟩ : Shape).size a)
    (w3 w2 w1 w0 : (⟨2, ![128, n]⟩ : Shape).Idx → Elt F e)
    (h3 : w3 = P (rows128 x0 3)) (h2 : w2 = P (rows128 x0 2)) (h1 : w1 = P (rows128 x0 1)) (h0 : w0 = P (rows128 x0 0)) :
    v.read (Elt F) (v.writes (Elt F) f [⟨Rect.unit ![384, 0] (⟨2, ![128, n]⟩ : Shape).size i3, w3⟩,
        ⟨Rect.unit ![256, 0] (⟨2, ![128, n]⟩ : Shape).size i2, w2⟩,
        ⟨Rect.unit ![128, 0] (⟨2, ![128, n]⟩ : Shape).size i1, w1⟩,
        ⟨Rect.unit ![0, 0] (⟨2, ![128, n]⟩ : Shape).size i0, w0⟩]) = tiled P x0 := by
  subst h3 h2 h1 h0
  funext y
  have hy : (y 0).val < 512 := (y 0).isLt
  have key : ∀ g : Fin 4, (y 0).val / 128 = g.val → tiled P x0 y
      = P (rows128 x0 g) (ix2 ⟨(y 0).val % 128, Nat.mod_lt _ (by decide)⟩ ⟨(y 1).val, (y 1).isLt⟩) := by
    intro g hg
    have : (⟨(y 0).val / 128, by omega⟩ : Fin 4) = g := Fin.ext hg
    unfold tiled; rw [this]
  have c : (y 0).val / 128 = 0 ∨ (y 0).val / 128 = 1 ∨ (y 0).val / 128 = 2 ∨ (y 0).val / 128 = 3 := by omega
  rcases c with c | c | c | c
  · rw [View.read_writes_cons_unit_of_not_mem v f i3 _ _ y rfl 0 (Or.inl (by show _ < 384; omega)),
      View.read_writes_cons_unit_of_not_mem v f i2 _ _ y rfl 0 (Or.inl (by show _ < 256; omega)),
      View.read_writes_cons_unit_of_not_mem v f i1 _ _ y rfl 0 (Or.inl (by show _ < 128; omega)), key 0 c]
    exact View.read_writes_cons_unit_of_mem v f i0 _ _ y _ rfl (fun a => by
      fin_cases a
      · show (y 0).val = 0 + (y 0).val % 128; omega
      · show (y 1).val = 0 + (y 1).val; omega)
  · rw [View.read_writes_cons_unit_of_not_mem v f i3 _ _ y rfl 0 (Or.inl (by show _ < 384; omega)),
      View.read_writes_cons_unit_of_not_mem v f i2 _ _ y rfl 0 (Or.inl (by show _ < 256; omega)), key 1 c]
    exact View.read_writes_cons_unit_of_mem v f i1 _ _ y _ rfl (fun a => by
      fin_cases a
      · show (y 0).val = 128 + (y 0).val % 128; omega
      · show (y 1).val = 0 + (y 1).val; omega)
  · rw [View.read_writes_cons_unit_of_not_mem v f i3 _ _ y rfl 0 (Or.inl (by show _ < 384; omega)), key 2 c]
    exact View.read_writes_cons_unit_of_mem v f i2 _ _ y _ rfl (fun a => by
      fin_cases a
      · show (y 0).val = 256 + (y 0).val % 128; omega
      · show (y 1).val = 0 + (y 1).val; omega)
  · rw [key 3 c]
    exact View.read_writes_cons_unit_of_mem v f i3 _ _ y _ rfl (fun a => by
      fin_cases a
      · show (y 0).val = 384 + (y 0).val % 128; omega
      · show (y 1).val = 0 + (y 1).val; omega)

/-- A load of a row group. -/
theorem load_rows (x0 : Vec F S512x2048 .bf16) (g : Fin 4) (o : ℕ) (ho : o = 128 * g.val)
    (inb : ∀ a, (![o, 0] : Fin 2 → ℕ) a + S128x2048.size a ≤ S512x2048.size a) :
    (fun j => x0 ((Rect.unit (s := S512x2048) ![o, 0] S128x2048.size inb).toLoadRect.idx j)) = rows128 x0 g := by
  subst ho
  funext j
  unfold rows128
  refine congrArg x0 (funext fun a => Fin.ext ?_)
  fin_cases a
  · show 128 * g.val + 1 * (j 0).val = 128 * g.val + (j 0).val; omega
  · show 0 + 1 * (j 1).val = (j 1).val; omega

/-- A load of a whole block. -/
theorem load_whole2 {e : EltTy} {n k : ℕ} (X : (⟨2, ![n, k]⟩ : Shape).Idx → Elt F e)
    (inb : ∀ a, (![0, 0] : Fin 2 → ℕ) a + (⟨2, ![n, k]⟩ : Shape).size a ≤ (⟨2, ![n, k]⟩ : Shape).size a) :
    (fun j => X ((Rect.unit (s := (⟨2, ![n, k]⟩ : Shape)) ![0, 0] (⟨2, ![n, k]⟩ : Shape).size inb).toLoadRect.idx j)) = X := by
  funext j
  refine congrArg X (funext fun a => Fin.ext ?_)
  fin_cases a
  · show 0 + 1 * (j 0).val = (j 0).val; omega
  · show 0 + 1 * (j 1).val = (j 1).val; omega

theorem load_xqL (X : Vec F S512x2048 .bf16) (inb : ∀ a, (![0, 0] : Fin 2 → ℕ) a + S512x1024.size a ≤ S512x2048.size a) :
    (fun j => X ((Rect.unit (s := S512x2048) ![0, 0] S512x1024.size inb).toLoadRect.idx j)) = xqL X := by
  funext j
  unfold xqL
  refine congrArg X (funext fun a => Fin.ext ?_)
  fin_cases a
  · show 0 + 1 * (j 0).val = (j 0).val; omega
  · show 0 + 1 * (j 1).val = (j 1).val; omega

theorem load_xqR (X : Vec F S512x2048 .bf16) (inb : ∀ a, (![0, 1024] : Fin 2 → ℕ) a + S512x1024.size a ≤ S512x2048.size a) :
    (fun j => X ((Rect.unit (s := S512x2048) ![0, 1024] S512x1024.size inb).toLoadRect.idx j)) = xqR X := by
  funext j
  unfold xqR
  refine congrArg X (funext fun a => Fin.ext ?_)
  fin_cases a
  · show 0 + 1 * (j 0).val = (j 0).val; omega
  · show 1024 + 1 * (j 1).val = 1024 + (j 1).val; omega

theorem load_wbU (X : Vec F S4x2048x1408 .bf16) (i : grid0.Coords)
    (inb : ∀ a, k0_off3 i a + S1x1024x1408.size a ≤ S4x2048x1408.size a) :
    (fun j => X ((Rect.unit (s := S4x2048x1408) (k0_off3 i) S1x1024x1408.size inb).toLoadRect.idx j)) = wbU (i 1) X := by
  funext j
  unfold wbU
  have hj : (j 0).val < 1 := (j 0).isLt
  refine congrArg X (funext fun a => Fin.ext ?_)
  refine (congrArg (· + 1 * (j a).val) (congrFun (k0_off3_eq i) a)).trans ?_
  fin_cases a
  · show (i 1).val + 1 * (j 0).val = (i 1).val; omega
  · show 0 + 1 * (j 1).val = (j 1).val; omega
  · show 0 + 1 * (j 2).val = (j 2).val; omega

theorem load_wbD (X : Vec F S4x2048x1408 .bf16) (i : grid0.Coords)
    (inb : ∀ a, k0_off4 i a + S1x1024x1408.size a ≤ S4x2048x1408.size a) :
    (fun j => X ((Rect.unit (s := S4x2048x1408) (k0_off4 i) S1x1024x1408.size inb).toLoadRect.idx j)) = wbD (i 1) X := by
  funext j
  unfold wbD
  have hj : (j 0).val < 1 := (j 0).isLt
  refine congrArg X (funext fun a => Fin.ext ?_)
  refine (congrArg (· + 1 * (j a).val) (congrFun (k0_off4_eq i) a)).trans ?_
  fin_cases a
  · show (i 1).val + 1 * (j 0).val = (i 1).val; omega
  · show 1024 + 1 * (j 1).val = 1024 + (j 1).val; omega
  · show 0 + 1 * (j 2).val = (j 2).val; omega

/-- The store of a weight block into its slab, read back. -/
theorem read_wbStep (v : View sig κ sp S4x2048x1408 .bf16) (f : v.ty.Contents (Elt F)) (i : grid0.Coords)
    (inb : ∀ a, k0_off1 i a + S1x2048x1408.size a ≤ S4x2048x1408.size a) (x1 : Vec F S2048x1408 .i8)
    (w : S1x2048x1408.Idx → Elt F .bf16) (hw : w = k0_pay35 x1) :
    v.read (Elt F) (v.writes (Elt F) f [⟨Rect.unit (k0_off1 i) S1x2048x1408.size inb, w⟩]) = wbStep (i 1).val x1 (v.read (Elt F) f) := by
  subst hw
  funext y
  unfold wbStep
  split
  · rename_i h
    exact View.read_writes_cons_unit_of_mem v f inb _ _ y _ (k0_off1_eq i) (fun a => by
      fin_cases a
      · show (y 0).val = (i 1).val + 0; omega
      · show (y 1).val = 0 + (y 1).val; omega
      · show (y 2).val = 0 + (y 2).val; omega)
  · rename_i h
    exact View.read_writes_cons_unit_of_not_mem v f inb _ _ y (k0_off1_eq i) 0 (by
      show (y 0).val < (i 1).val ∨ (i 1).val + 1 ≤ (y 0).val; omega)

/-- A load of half the slab just stored does not depend on the other slabs. -/
theorem wbU_wbStep (j : Fin 4) (x1 : Vec F S2048x1408 .i8) (A B : Vec F S4x2048x1408 .bf16) :
    wbU j (wbStep j.val x1 A) = wbU j (wbStep j.val x1 B) := by
  funext y; exact (if_pos rfl).trans (if_pos rfl).symm
theorem wbD_wbStep (j : Fin 4) (x1 : Vec F S2048x1408 .i8) (A B : Vec F S4x2048x1408 .bf16) :
    wbD j (wbStep j.val x1 A) = wbD j (wbStep j.val x1 B) := by
  funext y; exact (if_pos rfl).trans (if_pos rfl).symm

/-- The four rows of scales stored into the table, read back. -/
theorem read_rowsStep (v : View sig κ sp S120x128 .f32) (f : v.ty.Contents (Elt F)) (i : grid0.Coords) (x0 : Vec F S512x2048 .bf16)
    (i3 : ∀ a, k0_off2 i 384#32 a + S1x128.size a ≤ S120x128.size a) (i2 : ∀ a, k0_off2 i 256#32 a + S1x128.size a ≤ S120x128.size a)
    (i1 : ∀ a, k0_off2 i 128#32 a + S1x128.size a ≤ S120x128.size a) (i0 : ∀ a, k0_off2 i 0#32 a + S1x128.size a ≤ S120x128.size a)
    (w3 w2 w1 w0 : S1x128.Idx → Elt F .f32)
    (h3 : w3 = rowG (rows128 x0 3)) (h2 : w2 = rowG (rows128 x0 2)) (h1 : w1 = rowG (rows128 x0 1)) (h0 : w0 = rowG (rows128 x0 0)) :
    v.read (Elt F) (v.writes (Elt F) f [⟨Rect.unit (k0_off2 i 384#32) S1x128.size i3, w3⟩,
        ⟨Rect.unit (k0_off2 i 256#32) S1x128.size i2, w2⟩, ⟨Rect.unit (k0_off2 i 128#32) S1x128.size i1, w1⟩,
        ⟨Rect.unit (k0_off2 i 0#32) S1x128.size i0, w0⟩]) = rowsStep (i 0).val x0 (v.read (Elt F) f) := by
  subst h3 h2 h1 h0
  have o3 : k0_off2 i 384#32 = ![4 * (i 0).val + 3, 0] := k0_off2_eq i 3
  have o2 : k0_off2 i 256#32 = ![4 * (i 0).val + 2, 0] := k0_off2_eq i 2
  have o1 : k0_off2 i 128#32 = ![4 * (i 0).val + 1, 0] := k0_off2_eq i 1
  have o0 : k0_off2 i 0#32 = ![4 * (i 0).val + 0, 0] := k0_off2_eq i 0
  funext y
  have key : ∀ g : Fin 4, (y 0).val = 4 * (i 0).val + g.val → rowsStep (i 0).val x0 (v.read (Elt F) f) y
      = rowG (rows128 x0 g) (ix2 0 ⟨(y 1).val, (y 1).isLt⟩) := by
    intro g hg
    have hgl := g.isLt
    have e : (⟨(y 0).val % 4, Nat.mod_lt _ (by decide)⟩ : Fin 4) = g := Fin.ext (by show (y 0).val % 4 = g.val; omega)
    unfold rowsStep; rw [if_pos (by omega), e]
  by_cases c3 : (y 0).val = 4 * (i 0).val + 3
  · rw [key 3 c3]
    exact View.read_writes_cons_unit_of_mem v f i3 _ _ y _ o3 (fun a => by
      fin_cases a
      · show (y 0).val = 4 * (i 0).val + 3 + 0; omega
      · show (y 1).val = 0 + (y 1).val; omega)
  rw [View.read_writes_cons_unit_of_not_mem v f i3 _ _ y o3 0 (by
    show (y 0).val < 4 * (i 0).val + 3 ∨ 4 * (i 0).val + 3 + 1 ≤ (y 0).val; omega)]
  by_cases c2 : (y 0).val = 4 * (i 0).val + 2
  · rw [key 2 c2]
    exact View.read_writes_cons_unit_of_mem v f i2 _ _ y _ o2 (fun a => by
      fin_cases a
      · show (y 0).val = 4 * (i 0).val + 2 + 0; omega
      · show (y 1).val = 0 + (y 1).val; omega)
  rw [View.read_writes_cons_unit_of_not_mem v f i2 _ _ y o2 0 (by
    show (y 0).val < 4 * (i 0).val + 2 ∨ 4 * (i 0).val + 2 + 1 ≤ (y 0).val; omega)]
  by_cases c1 : (y 0).val = 4 * (i 0).val + 1
  · rw [key 1 c1]
    exact View.read_writes_cons_unit_of_mem v f i1 _ _ y _ o1 (fun a => by
      fin_cases a
      · show (y 0).val = 4 * (i 0).val + 1 + 0; omega
      · show (y 1).val = 0 + (y 1).val; omega)
  rw [View.read_writes_cons_unit_of_not_mem v f i1 _ _ y o1 0 (by
    show (y 0).val < 4 * (i 0).val + 1 ∨ 4 * (i 0).val + 1 + 1 ≤ (y 0).val; omega)]
  by_cases c0 : (y 0).val = 4 * (i 0).val + 0
  · rw [key 0 c0]
    exact View.read_writes_cons_unit_of_mem v f i0 _ _ y _ o0 (fun a => by
      fin_cases a
      · show (y 0).val = 4 * (i 0).val + 0 + 0; omega
      · show (y 1).val = 0 + (y 1).val; omega)
  rw [View.read_writes_cons_unit_of_not_mem v f i0 _ _ y o0 0 (by
    show (y 0).val < 4 * (i 0).val + 0 ∨ 4 * (i 0).val + 0 + 1 ≤ (y 0).val; omega)]
  unfold rowsStep
  rw [if_neg (by omega)]
  rfl

/-- A load of a box every index of which was just stored reads the stored values. -/
theorem readCov_of {s : Shape} {e : EltTy} (v : View sig κ sp s e) (L : List (View.Piece (Elt F) s e)) (B : LoadRect s)
    (G : s.Idx → Elt F e) (h : v.read (Elt F) (v.writes (Elt F) v.junk L) = G) :
    v.readCov L B = fun j => G (B.idx j) := by
  subst h; rfl

/-- One row of the table copied into its place among the assembled scales. -/
theorem piece_xs (v : View sig κ sp S120x128 .f32) (a b r o : ℕ) (hr : r = 15 * a + b) (ho : o = 128 * b) (hb : b < 15)
    (inb : ∀ d : Fin 2, (![r, 0] : Fin 2 → ℕ) d + S1x128.size d ≤ S120x128.size d)
    (inb' : ∀ d : Fin 2, (![a, o] : Fin 2 → ℕ) d + S1x128.size d ≤ S8x1920.size d)
    (f : v.ty.Contents (Elt F)) (R : Vec F S120x128 .f32) (hR : v.read (Elt F) f = R)
    (x : (Rect.unit (s := S8x1920) ![a, o] S1x128.size inb').shape.Idx) :
    v.readAt (Elt F) (Rect.unit (s := S120x128) ![r, 0] S1x128.size inb).toLoadRect f x
      = xsB R ((Rect.unit (s := S8x1920) ![a, o] S1x128.size inb').emb x) := by
  subst hr ho hR
  unfold xsB
  have h0 : (x 0).val < 1 := (x 0).isLt
  have h1 : (x 1).val < 128 := (x 1).isLt
  refine congrArg (v.read (Elt F) f) (funext fun d => Fin.ext ?_)
  fin_cases d
  · show 15 * a + b + 1 * (x 0).val = 15 * (a + 1 * (x 0).val) + (128 * b + 1 * (x 1).val) / 128; omega
  · show 0 + 1 * (x 1).val = (128 * b + 1 * (x 1).val) % 128; omega

end leaves

end Cert.KernelIdeal.Hand

end
-- ==== Proof.RunD.lean ====
module

public import proofs.«01_k».proof.Proof.Leaves

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem run_D (c : Dev nD) (i : grid0.Coords) (arg2 : Memref sig .tc .vmem S512x2048 .bf16) (harg2 : arg2.IsWhole) (arg3 : Memref sig .tc .vmem S2048x1408 .i8) (harg3 : arg3.IsWhole) (arg4 : Memref sig .tc .vmem S1x1408 .f32) (harg4 : arg4.IsWhole) (arg5 : Memref sig .tc .vmem S512x1408 .bf16) (harg5 : arg5.IsWhole) (arg6 : Memref sig .tc .vmem S512x2048 .i8) (harg6 : arg6.IsWhole) (arg7 : Memref sig .tc .vmem S8x1920 .f32) (harg7 : arg7.IsWhole) (arg8 : Memref sig .tc .vmem S4x2048x1408 .bf16) (harg8 : arg8.IsWhole) (arg9 : Memref sig .tc .vmem S512x2048 .bf16) (harg9 : arg9.IsWhole) (arg10 : Memref sig .tc .vmem S512x128 .f32) (harg10 : arg10.IsWhole) (arg11 : Memref sig .tc .vmem S120x128 .f32) (harg11 : arg11.IsWhole) (hc0 : ¬cond0_0 i) (hc1 : ¬cond0_1 i) (hc2 : ¬cond0_2 i)
    (x0 : Vec F S512x2048 .bf16) (x1 : Vec F S2048x1408 .i8) (x2 : Vec F S1x1408 .f32) (Z4 : Vec F S512x2048 .i8) (Z5 : Vec F S8x1920 .f32)
    (S0 : Vec F S4x2048x1408 .bf16) (S1 : Vec F S512x2048 .bf16) (S2 : Vec F S512x128 .f32) (S3 : Vec F S120x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare Z4 ∗ owns (c : Thread nD τ) arg7 fullShare Z5 ∗ owns (c : Thread nD τ) arg8 fullShare S0 ∗ owns (c : Thread nD τ) arg9 fullShare S1 ∗ owns (c : Thread nD τ) arg10 fullShare S2 ∗ owns (c : Thread nD τ) arg11 fullShare S3
        ∗ (iprop(owns (c : Thread nD τ) arg2 fullShare x0 ∗ owns (c : Thread nD τ) arg3 fullShare x1 ∗ owns (c : Thread nD τ) arg4 fullShare x2 ∗ owns (c : Thread nD τ) arg5 fullShare (yB (i 1) S0 S1 S2 x2) ∗ owns (c : Thread nD τ) arg6 fullShare Z4 ∗ owns (c : Thread nD τ) arg7 fullShare Z5 ∗ owns (c : Thread nD τ) arg8 fullShare S0 ∗ owns (c : Thread nD τ) arg9 fullShare S1 ∗ owns (c : Thread nD τ) arg10 fullShare S2 ∗ owns (c : Thread nD τ) arg11 fullShare S3) -∗ K ⟨⟩))
      ⊢ wp frame (wpE (defs₀ (F := F)) Variants.none c none) E (cc0_w8a8_linear i arg2 harg2 arg3 harg3 arg4 harg4 arg5 harg5 arg6 harg6 arg7 harg7 arg8 harg8 arg9 harg9 arg10 harg10 arg11 harg11) K := by
    simp only [cc0_w8a8_linear_eq_skeleton]; unfold cc0_w8a8_linear_skel
    simp only [k0_part21_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hs0, HS0⟩, ⟨%fs1, %hs1, HS1⟩, ⟨%fs2, %hs2, HS2⟩, ⟨%fs3, %hs3, HS3⟩, Hk⟩
    subst hf0 hf1 hf2 hf4 hf5 hs0 hs1 hs2 hs3
    sl_exec (disch := first | sl_exact hc0 | sl_exact hc1 | sl_exact hc2)
    sl_step
    iapply Hk
    isplitl [H0]
    · iexists _; isplitr; swap; iexact H0; ipureintro; exact rfl
    isplitl [H1]
    · iexists _; isplitr; swap; iexact H1; ipureintro; exact rfl
    isplitl [H2]
    · iexists _; isplitr; swap; iexact H2; ipureintro; exact rfl
    isplitl [H3]
    · iexists _; isplitr; swap; iexact H3; ipureintro; exact (read_whole2 arg5.view _ _ _).trans (congrArg₆ k0_pay36 (load_xqL _ _) (load_wbU _ i _) (load_xqR _ _) (load_wbD _ i _) (load_whole2 _ _) (load_whole2 _ _))
    isplitl [H4]
    · iexists _; isplitr; swap; iexact H4; ipureintro; exact rfl
    isplitl [H5]
    · iexists _; isplitr; swap; iexact H5; ipureintro; exact rfl
    isplitl [HS0]
    · iexists _; isplitr; swap; iexact HS0; ipureintro; exact rfl
    isplitl [HS1]
    · iexists _; isplitr; swap; iexact HS1; ipureintro; exact rfl
    isplitl [HS2]
    · iexists _; isplitr; swap; iexact HS2; ipureintro; exact rfl
    iexists _; isplitr; swap; iexact HS3; ipureintro; exact rfl

end Cert.KernelIdeal.Hand

end
-- ==== Proof.RunB.lean ====
module

public import proofs.«01_k».proof.Proof.RunD

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem run_B (c : Dev nD) (i : grid0.Coords) (arg2 : Memref sig .tc .vmem S512x2048 .bf16) (harg2 : arg2.IsWhole) (arg3 : Memref sig .tc .vmem S2048x1408 .i8) (harg3 : arg3.IsWhole) (arg4 : Memref sig .tc .vmem S1x1408 .f32) (harg4 : arg4.IsWhole) (arg5 : Memref sig .tc .vmem S512x1408 .bf16) (harg5 : arg5.IsWhole) (arg6 : Memref sig .tc .vmem S512x2048 .i8) (harg6 : arg6.IsWhole) (arg7 : Memref sig .tc .vmem S8x1920 .f32) (harg7 : arg7.IsWhole) (arg8 : Memref sig .tc .vmem S4x2048x1408 .bf16) (harg8 : arg8.IsWhole) (arg9 : Memref sig .tc .vmem S512x2048 .bf16) (harg9 : arg9.IsWhole) (arg10 : Memref sig .tc .vmem S512x128 .f32) (harg10 : arg10.IsWhole) (arg11 : Memref sig .tc .vmem S120x128 .f32) (harg11 : arg11.IsWhole) (hc0 : cond0_0 i) (hc1 : ¬cond0_1 i) (hc2 : ¬cond0_2 i)
    (x0 : Vec F S512x2048 .bf16) (x1 : Vec F S2048x1408 .i8) (x2 : Vec F S1x1408 .f32) (Z4 : Vec F S512x2048 .i8) (Z5 : Vec F S8x1920 .f32)
    (S0 : Vec F S4x2048x1408 .bf16) (S1 : Vec F S512x2048 .bf16) (S2 : Vec F S512x128 .f32) (S3 : Vec F S120x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare Z4 ∗ owns (c : Thread nD τ) arg7 fullShare Z5 ∗ owns (c : Thread nD τ) arg8 fullShare S0 ∗ owns (c : Thread nD τ) arg9 fullShare S1 ∗ owns (c : Thread nD τ) arg10 fullShare S2 ∗ owns (c : Thread nD τ) arg11 fullShare S3
        ∗ (iprop(owns (c : Thread nD τ) arg2 fullShare x0 ∗ owns (c : Thread nD τ) arg3 fullShare x1 ∗ owns (c : Thread nD τ) arg4 fullShare x2 ∗ owns (c : Thread nD τ) arg5 fullShare (yB (i 1) (wbStep (i 1).val x1 S0) S1 S2 x2) ∗ owns (c : Thread nD τ) arg6 fullShare Z4 ∗ owns (c : Thread nD τ) arg7 fullShare Z5 ∗ owns (c : Thread nD τ) arg8 fullShare (wbStep (i 1).val x1 S0) ∗ owns (c : Thread nD τ) arg9 fullShare S1 ∗ owns (c : Thread nD τ) arg10 fullShare S2 ∗ owns (c : Thread nD τ) arg11 fullShare S3) -∗ K ⟨⟩))
      ⊢ wp frame (wpE (defs₀ (F := F)) Variants.none c none) E (cc0_w8a8_linear i arg2 harg2 arg3 harg3 arg4 harg4 arg5 harg5 arg6 harg6 arg7 harg7 arg8 harg8 arg9 harg9 arg10 harg10 arg11 harg11) K := by
    simp only [cc0_w8a8_linear_eq_skeleton]; unfold cc0_w8a8_linear_skel
    simp only [k0_part21_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hs0, HS0⟩, ⟨%fs1, %hs1, HS1⟩, ⟨%fs2, %hs2, HS2⟩, ⟨%fs3, %hs3, HS3⟩, Hk⟩
    subst hf0 hf1 hf2 hf4 hf5 hs0 hs1 hs2 hs3
    sl_exec (disch := first | sl_exact hc0 | sl_exact hc1 | sl_exact hc2)
    sl_step
    iapply Hk
    isplitl [H0]
    · iexists _; isplitr; swap; iexact H0; ipureintro; exact rfl
    isplitl [H1]
    · iexists _; isplitr; swap; iexact H1; ipureintro; exact rfl
    isplitl [H2]
    · iexists _; isplitr; swap; iexact H2; ipureintro; exact rfl
    isplitl [H3]
    · iexists _; isplitr; swap; iexact H3; ipureintro; exact (read_whole2 arg5.view _ _ _).trans (congrArg₆ k0_pay36 (load_xqL _ _) ((readCov_of arg8.view _ _ _ (read_wbStep arg8.view _ i _ _ _ (congrArg k0_pay35 (load_whole2 _ _)))).trans ((load_wbU _ i _).trans (wbU_wbStep (i 1) _ _ _))) (load_xqR _ _) ((readCov_of arg8.view _ _ _ (read_wbStep arg8.view _ i _ _ _ (congrArg k0_pay35 (load_whole2 _ _)))).trans ((load_wbD _ i _).trans (wbD_wbStep (i 1) _ _ _))) (load_whole2 _ _) (load_whole2 _ _))
    isplitl [H4]
    · iexists _; isplitr; swap; iexact H4; ipureintro; exact rfl
    isplitl [H5]
    · iexists _; isplitr; swap; iexact H5; ipureintro; exact rfl
    isplitl [HS0]
    · iexists _; isplitr; swap; iexact HS0; ipureintro; exact read_wbStep arg8.view _ i _ _ _ (congrArg k0_pay35 (load_whole2 _ _))
    isplitl [HS1]
    · iexists _; isplitr; swap; iexact HS1; ipureintro; exact rfl
    isplitl [HS2]
    · iexists _; isplitr; swap; iexact HS2; ipureintro; exact rfl
    iexists _; isplitr; swap; iexact HS3; ipureintro; exact rfl

end Cert.KernelIdeal.Hand

end
-- ==== Proof.RunC.lean ====
module

public import proofs.«01_k».proof.Proof.RunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem run_C (c : Dev nD) (i : grid0.Coords) (arg2 : Memref sig .tc .vmem S512x2048 .bf16) (harg2 : arg2.IsWhole) (arg3 : Memref sig .tc .vmem S2048x1408 .i8) (harg3 : arg3.IsWhole) (arg4 : Memref sig .tc .vmem S1x1408 .f32) (harg4 : arg4.IsWhole) (arg5 : Memref sig .tc .vmem S512x1408 .bf16) (harg5 : arg5.IsWhole) (arg6 : Memref sig .tc .vmem S512x2048 .i8) (harg6 : arg6.IsWhole) (arg7 : Memref sig .tc .vmem S8x1920 .f32) (harg7 : arg7.IsWhole) (arg8 : Memref sig .tc .vmem S4x2048x1408 .bf16) (harg8 : arg8.IsWhole) (arg9 : Memref sig .tc .vmem S512x2048 .bf16) (harg9 : arg9.IsWhole) (arg10 : Memref sig .tc .vmem S512x128 .f32) (harg10 : arg10.IsWhole) (arg11 : Memref sig .tc .vmem S120x128 .f32) (harg11 : arg11.IsWhole) (hc0 : ¬cond0_0 i) (hc1 : cond0_1 i) (hc2 : ¬cond0_2 i)
    (x0 : Vec F S512x2048 .bf16) (x1 : Vec F S2048x1408 .i8) (x2 : Vec F S1x1408 .f32) (Z4 : Vec F S512x2048 .i8) (Z5 : Vec F S8x1920 .f32)
    (S0 : Vec F S4x2048x1408 .bf16) (S1 : Vec F S512x2048 .bf16) (S2 : Vec F S512x128 .f32) (S3 : Vec F S120x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare Z4 ∗ owns (c : Thread nD τ) arg7 fullShare Z5 ∗ owns (c : Thread nD τ) arg8 fullShare S0 ∗ owns (c : Thread nD τ) arg9 fullShare S1 ∗ owns (c : Thread nD τ) arg10 fullShare S2 ∗ owns (c : Thread nD τ) arg11 fullShare S3
        ∗ (iprop(owns (c : Thread nD τ) arg2 fullShare x0 ∗ owns (c : Thread nD τ) arg3 fullShare x1 ∗ owns (c : Thread nD τ) arg4 fullShare x2 ∗ owns (c : Thread nD τ) arg5 fullShare (yB (i 1) S0 (xqB x0) (scB x0) x2) ∗ owns (c : Thread nD τ) arg6 fullShare (codesB x0) ∗ owns (c : Thread nD τ) arg7 fullShare Z5 ∗ owns (c : Thread nD τ) arg8 fullShare S0 ∗ owns (c : Thread nD τ) arg9 fullShare (xqB x0) ∗ owns (c : Thread nD τ) arg10 fullShare (scB x0) ∗ owns (c : Thread nD τ) arg11 fullShare (rowsStep (i 0).val x0 S3)) -∗ K ⟨⟩))
      ⊢ wp frame (wpE (defs₀ (F := F)) Variants.none c none) E (cc0_w8a8_linear i arg2 harg2 arg3 harg3 arg4 harg4 arg5 harg5 arg6 harg6 arg7 harg7 arg8 harg8 arg9 harg9 arg10 harg10 arg11 harg11) K := by
    simp only [cc0_w8a8_linear_eq_skeleton]; unfold cc0_w8a8_linear_skel
    simp only [k0_part21_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hs0, HS0⟩, ⟨%fs1, %hs1, HS1⟩, ⟨%fs2, %hs2, HS2⟩, ⟨%fs3, %hs3, HS3⟩, Hk⟩
    subst hf0 hf1 hf2 hf4 hf5 hs0 hs1 hs2 hs3
    sl_exec (disch := first | sl_exact hc0 | sl_exact hc1 | sl_exact hc2)
    sl_step
    iapply Hk
    isplitl [H0]
    · iexists _; isplitr; swap; iexact H0; ipureintro; exact rfl
    isplitl [H1]
    · iexists _; isplitr; swap; iexact H1; ipureintro; exact rfl
    isplitl [H2]
    · iexists _; isplitr; swap; iexact H2; ipureintro; exact rfl
    isplitl [H3]
    · iexists _; isplitr; swap; iexact H3; ipureintro; exact (read_whole2 arg5.view _ _ _).trans (congrArg₆ k0_pay36 ((readCov_of arg9.view _ _ _ (read_tiled arg9.view _ k0_pay5 _ _ _ _ _ _ _ _ _ (congrArg k0_pay5 (load_rows _ 3 384 rfl _)) (congrArg k0_pay5 (load_rows _ 2 256 rfl _)) (congrArg k0_pay5 (load_rows _ 1 128 rfl _)) (congrArg k0_pay5 (load_rows _ 0 0 rfl _)))).trans (load_xqL _ _)) (load_wbU _ i _) ((readCov_of arg9.view _ _ _ (read_tiled arg9.view _ k0_pay5 _ _ _ _ _ _ _ _ _ (congrArg k0_pay5 (load_rows _ 3 384 rfl _)) (congrArg k0_pay5 (load_rows _ 2 256 rfl _)) (congrArg k0_pay5 (load_rows _ 1 128 rfl _)) (congrArg k0_pay5 (load_rows _ 0 0 rfl _)))).trans (load_xqR _ _)) (load_wbD _ i _) ((readCov_of arg10.view _ _ _ (read_tiled arg10.view _ k0_pay7 _ _ _ _ _ _ _ _ _ (congrArg k0_pay7 (load_rows _ 3 384 rfl _)) (congrArg k0_pay7 (load_rows _ 2 256 rfl _)) (congrArg k0_pay7 (load_rows _ 1 128 rfl _)) (congrArg k0_pay7 (load_rows _ 0 0 rfl _)))).trans (load_whole2 _ _)) (load_whole2 _ _))
    isplitl [H4]
    · iexists _; isplitr; swap; iexact H4; ipureintro; exact read_tiled arg6.view _ k0_pay4 _ _ _ _ _ _ _ _ _ (congrArg k0_pay4 (load_rows _ 3 384 rfl _)) (congrArg k0_pay4 (load_rows _ 2 256 rfl _)) (congrArg k0_pay4 (load_rows _ 1 128 rfl _)) (congrArg k0_pay4 (load_rows _ 0 0 rfl _))
    isplitl [H5]
    · iexists _; isplitr; swap; iexact H5; ipureintro; exact rfl
    isplitl [HS0]
    · iexists _; isplitr; swap; iexact HS0; ipureintro; exact rfl
    isplitl [HS1]
    · iexists _; isplitr; swap; iexact HS1; ipureintro; exact read_tiled arg9.view _ k0_pay5 _ _ _ _ _ _ _ _ _ (congrArg k0_pay5 (load_rows _ 3 384 rfl _)) (congrArg k0_pay5 (load_rows _ 2 256 rfl _)) (congrArg k0_pay5 (load_rows _ 1 128 rfl _)) (congrArg k0_pay5 (load_rows _ 0 0 rfl _))
    isplitl [HS2]
    · iexists _; isplitr; swap; iexact HS2; ipureintro; exact read_tiled arg10.view _ k0_pay7 _ _ _ _ _ _ _ _ _ (congrArg k0_pay7 (load_rows _ 3 384 rfl _)) (congrArg k0_pay7 (load_rows _ 2 256 rfl _)) (congrArg k0_pay7 (load_rows _ 1 128 rfl _)) (congrArg k0_pay7 (load_rows _ 0 0 rfl _))
    iexists _; isplitr; swap; iexact HS3; ipureintro; exact read_rowsStep arg11.view _ i _ _ _ _ _ _ _ _ _ (congrArg rowG (load_rows _ 3 384 rfl _)) (congrArg rowG (load_rows _ 2 256 rfl _)) (congrArg rowG (load_rows _ 1 128 rfl _)) (congrArg rowG (load_rows _ 0 0 rfl _))

end Cert.KernelIdeal.Hand

end
-- ==== Proof.RunA.lean ====
module

public import proofs.«01_k».proof.Proof.RunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem run_A (c : Dev nD) (i : grid0.Coords) (arg2 : Memref sig .tc .vmem S512x2048 .bf16) (harg2 : arg2.IsWhole) (arg3 : Memref sig .tc .vmem S2048x1408 .i8) (harg3 : arg3.IsWhole) (arg4 : Memref sig .tc .vmem S1x1408 .f32) (harg4 : arg4.IsWhole) (arg5 : Memref sig .tc .vmem S512x1408 .bf16) (harg5 : arg5.IsWhole) (arg6 : Memref sig .tc .vmem S512x2048 .i8) (harg6 : arg6.IsWhole) (arg7 : Memref sig .tc .vmem S8x1920 .f32) (harg7 : arg7.IsWhole) (arg8 : Memref sig .tc .vmem S4x2048x1408 .bf16) (harg8 : arg8.IsWhole) (arg9 : Memref sig .tc .vmem S512x2048 .bf16) (harg9 : arg9.IsWhole) (arg10 : Memref sig .tc .vmem S512x128 .f32) (harg10 : arg10.IsWhole) (arg11 : Memref sig .tc .vmem S120x128 .f32) (harg11 : arg11.IsWhole) (hc0 : cond0_0 i) (hc1 : cond0_1 i) (hc2 : ¬cond0_2 i)
    (x0 : Vec F S512x2048 .bf16) (x1 : Vec F S2048x1408 .i8) (x2 : Vec F S1x1408 .f32) (Z4 : Vec F S512x2048 .i8) (Z5 : Vec F S8x1920 .f32)
    (S0 : Vec F S4x2048x1408 .bf16) (S1 : Vec F S512x2048 .bf16) (S2 : Vec F S512x128 .f32) (S3 : Vec F S120x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare Z4 ∗ owns (c : Thread nD τ) arg7 fullShare Z5 ∗ owns (c : Thread nD τ) arg8 fullShare S0 ∗ owns (c : Thread nD τ) arg9 fullShare S1 ∗ owns (c : Thread nD τ) arg10 fullShare S2 ∗ owns (c : Thread nD τ) arg11 fullShare S3
        ∗ (iprop(owns (c : Thread nD τ) arg2 fullShare x0 ∗ owns (c : Thread nD τ) arg3 fullShare x1 ∗ owns (c : Thread nD τ) arg4 fullShare x2 ∗ owns (c : Thread nD τ) arg5 fullShare (yB (i 1) (wbStep (i 1).val x1 S0) (xqB x0) (scB x0) x2) ∗ owns (c : Thread nD τ) arg6 fullShare (codesB x0) ∗ owns (c : Thread nD τ) arg7 fullShare Z5 ∗ owns (c : Thread nD τ) arg8 fullShare (wbStep (i 1).val x1 S0) ∗ owns (c : Thread nD τ) arg9 fullShare (xqB x0) ∗ owns (c : Thread nD τ) arg10 fullShare (scB x0) ∗ owns (c : Thread nD τ) arg11 fullShare (rowsStep (i 0).val x0 S3)) -∗ K ⟨⟩))
      ⊢ wp frame (wpE (defs₀ (F := F)) Variants.none c none) E (cc0_w8a8_linear i arg2 harg2 arg3 harg3 arg4 harg4 arg5 harg5 arg6 harg6 arg7 harg7 arg8 harg8 arg9 harg9 arg10 harg10 arg11 harg11) K := by
    simp only [cc0_w8a8_linear_eq_skeleton]; unfold cc0_w8a8_linear_skel
    simp only [k0_part21_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hs0, HS0⟩, ⟨%fs1, %hs1, HS1⟩, ⟨%fs2, %hs2, HS2⟩, ⟨%fs3, %hs3, HS3⟩, Hk⟩
    subst hf0 hf1 hf2 hf4 hf5 hs0 hs1 hs2 hs3
    sl_exec (disch := first | sl_exact hc0 | sl_exact hc1 | sl_exact hc2)
    sl_step
    iapply Hk
    isplitl [H0]
    · iexists _; isplitr; swap; iexact H0; ipureintro; exact rfl
    isplitl [H1]
    · iexists _; isplitr; swap; iexact H1; ipureintro; exact rfl
    isplitl [H2]
    · iexists _; isplitr; swap; iexact H2; ipureintro; exact rfl
    isplitl [H3]
    · iexists _; isplitr; swap; iexact H3; ipureintro; exact (read_whole2 arg5.view _ _ _).trans (congrArg₆ k0_pay36 ((readCov_of arg9.view _ _ _ (read_tiled arg9.view _ k0_pay5 _ _ _ _ _ _ _ _ _ (congrArg k0_pay5 (load_rows _ 3 384 rfl _)) (congrArg k0_pay5 (load_rows _ 2 256 rfl _)) (congrArg k0_pay5 (load_rows _ 1 128 rfl _)) (congrArg k0_pay5 (load_rows _ 0 0 rfl _)))).trans (load_xqL _ _)) ((readCov_of arg8.view _ _ _ (read_wbStep arg8.view _ i _ _ _ (congrArg k0_pay35 (load_whole2 _ _)))).trans ((load_wbU _ i _).trans (wbU_wbStep (i 1) _ _ _))) ((readCov_of arg9.view _ _ _ (read_tiled arg9.view _ k0_pay5 _ _ _ _ _ _ _ _ _ (congrArg k0_pay5 (load_rows _ 3 384 rfl _)) (congrArg k0_pay5 (load_rows _ 2 256 rfl _)) (congrArg k0_pay5 (load_rows _ 1 128 rfl _)) (congrArg k0_pay5 (load_rows _ 0 0 rfl _)))).trans (load_xqR _ _)) ((readCov_of arg8.view _ _ _ (read_wbStep arg8.view _ i _ _ _ (congrArg k0_pay35 (load_whole2 _ _)))).trans ((load_wbD _ i _).trans (wbD_wbStep (i 1) _ _ _))) ((readCov_of arg10.view _ _ _ (read_tiled arg10.view _ k0_pay7 _ _ _ _ _ _ _ _ _ (congrArg k0_pay7 (load_rows _ 3 384 rfl _)) (congrArg k0_pay7 (load_rows _ 2 256 rfl _)) (congrArg k0_pay7 (load_rows _ 1 128 rfl _)) (congrArg k0_pay7 (load_rows _ 0 0 rfl _)))).trans (load_whole2 _ _)) (load_whole2 _ _))
    isplitl [H4]
    · iexists _; isplitr; swap; iexact H4; ipureintro; exact read_tiled arg6.view _ k0_pay4 _ _ _ _ _ _ _ _ _ (congrArg k0_pay4 (load_rows _ 3 384 rfl _)) (congrArg k0_pay4 (load_rows _ 2 256 rfl _)) (congrArg k0_pay4 (load_rows _ 1 128 rfl _)) (congrArg k0_pay4 (load_rows _ 0 0 rfl _))
    isplitl [H5]
    · iexists _; isplitr; swap; iexact H5; ipureintro; exact rfl
    isplitl [HS0]
    · iexists _; isplitr; swap; iexact HS0; ipureintro; exact read_wbStep arg8.view _ i _ _ _ (congrArg k0_pay35 (load_whole2 _ _))
    isplitl [HS1]
    · iexists _; isplitr; swap; iexact HS1; ipureintro; exact read_tiled arg9.view _ k0_pay5 _ _ _ _ _ _ _ _ _ (congrArg k0_pay5 (load_rows _ 3 384 rfl _)) (congrArg k0_pay5 (load_rows _ 2 256 rfl _)) (congrArg k0_pay5 (load_rows _ 1 128 rfl _)) (congrArg k0_pay5 (load_rows _ 0 0 rfl _))
    isplitl [HS2]
    · iexists _; isplitr; swap; iexact HS2; ipureintro; exact read_tiled arg10.view _ k0_pay7 _ _ _ _ _ _ _ _ _ (congrArg k0_pay7 (load_rows _ 3 384 rfl _)) (congrArg k0_pay7 (load_rows _ 2 256 rfl _)) (congrArg k0_pay7 (load_rows _ 1 128 rfl _)) (congrArg k0_pay7 (load_rows _ 0 0 rfl _))
    iexists _; isplitr; swap; iexact HS3; ipureintro; exact read_rowsStep arg11.view _ i _ _ _ _ _ _ _ _ _ (congrArg rowG (load_rows _ 3 384 rfl _)) (congrArg rowG (load_rows _ 2 256 rfl _)) (congrArg rowG (load_rows _ 1 128 rfl _)) (congrArg rowG (load_rows _ 0 0 rfl _))

end Cert.KernelIdeal.Hand

end
-- ==== Proof.RunE.lean ====
module

public import proofs.«01_k».proof.Proof.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem run_E (c : Dev nD) (i : grid0.Coords) (arg2 : Memref sig .tc .vmem S512x2048 .bf16) (harg2 : arg2.IsWhole) (arg3 : Memref sig .tc .vmem S2048x1408 .i8) (harg3 : arg3.IsWhole) (arg4 : Memref sig .tc .vmem S1x1408 .f32) (harg4 : arg4.IsWhole) (arg5 : Memref sig .tc .vmem S512x1408 .bf16) (harg5 : arg5.IsWhole) (arg6 : Memref sig .tc .vmem S512x2048 .i8) (harg6 : arg6.IsWhole) (arg7 : Memref sig .tc .vmem S8x1920 .f32) (harg7 : arg7.IsWhole) (arg8 : Memref sig .tc .vmem S4x2048x1408 .bf16) (harg8 : arg8.IsWhole) (arg9 : Memref sig .tc .vmem S512x2048 .bf16) (harg9 : arg9.IsWhole) (arg10 : Memref sig .tc .vmem S512x128 .f32) (harg10 : arg10.IsWhole) (arg11 : Memref sig .tc .vmem S120x128 .f32) (harg11 : arg11.IsWhole) (hc0 : ¬cond0_0 i) (hc1 : cond0_1 i) (hc2 : cond0_2 i)
    (x0 : Vec F S512x2048 .bf16) (x1 : Vec F S2048x1408 .i8) (x2 : Vec F S1x1408 .f32) (Z4 : Vec F S512x2048 .i8) (Z5 : Vec F S8x1920 .f32)
    (S0 : Vec F S4x2048x1408 .bf16) (S1 : Vec F S512x2048 .bf16) (S2 : Vec F S512x128 .f32) (S3 : Vec F S120x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare Z4 ∗ owns (c : Thread nD τ) arg7 fullShare Z5 ∗ owns (c : Thread nD τ) arg8 fullShare S0 ∗ owns (c : Thread nD τ) arg9 fullShare S1 ∗ owns (c : Thread nD τ) arg10 fullShare S2 ∗ owns (c : Thread nD τ) arg11 fullShare S3
        ∗ (iprop(owns (c : Thread nD τ) arg2 fullShare x0 ∗ owns (c : Thread nD τ) arg3 fullShare x1 ∗ owns (c : Thread nD τ) arg4 fullShare x2 ∗ owns (c : Thread nD τ) arg5 fullShare (yB (i 1) S0 (xqB x0) (scB x0) x2) ∗ owns (c : Thread nD τ) arg6 fullShare (codesB x0) ∗ owns (c : Thread nD τ) arg7 fullShare (xsB (rowsStep (i 0).val x0 S3)) ∗ owns (c : Thread nD τ) arg8 fullShare S0 ∗ owns (c : Thread nD τ) arg9 fullShare (xqB x0) ∗ owns (c : Thread nD τ) arg10 fullShare (scB x0) ∗ owns (c : Thread nD τ) arg11 fullShare (rowsStep (i 0).val x0 S3)) -∗ K ⟨⟩))
      ⊢ wp frame (wpE (defs₀ (F := F)) Variants.none c none) E (cc0_w8a8_linear i arg2 harg2 arg3 harg3 arg4 harg4 arg5 harg5 arg6 harg6 arg7 harg7 arg8 harg8 arg9 harg9 arg10 harg10 arg11 harg11) K := by
    simp only [cc0_w8a8_linear_eq_skeleton]; unfold cc0_w8a8_linear_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hs0, HS0⟩, ⟨%fs1, %hs1, HS1⟩, ⟨%fs2, %hs2, HS2⟩, ⟨%fs3, %hs3, HS3⟩, Hk⟩
    subst hf0 hf1 hf2 hf4 hf5 hs0 hs1 hs2 hs3
    sl_exec (disch := first | sl_exact hc0 | sl_exact hc1 | sl_exact hc2)
    sl_step
    iapply Hk
    isplitl [H0]
    · iexists _; isplitr; swap; iexact H0; ipureintro; exact rfl
    isplitl [H1]
    · iexists _; isplitr; swap; iexact H1; ipureintro; exact rfl
    isplitl [H2]
    · iexists _; isplitr; swap; iexact H2; ipureintro; exact rfl
    isplitl [H3]
    · iexists _; isplitr; swap; iexact H3; ipureintro; exact (read_whole2 arg5.view _ _ _).trans (congrArg₆ k0_pay36 ((readCov_of arg9.view _ _ _ (read_tiled arg9.view _ k0_pay5 _ _ _ _ _ _ _ _ _ (congrArg k0_pay5 (load_rows _ 3 384 rfl _)) (congrArg k0_pay5 (load_rows _ 2 256 rfl _)) (congrArg k0_pay5 (load_rows _ 1 128 rfl _)) (congrArg k0_pay5 (load_rows _ 0 0 rfl _)))).trans (load_xqL _ _)) (load_wbU _ i _) ((readCov_of arg9.view _ _ _ (read_tiled arg9.view _ k0_pay5 _ _ _ _ _ _ _ _ _ (congrArg k0_pay5 (load_rows _ 3 384 rfl _)) (congrArg k0_pay5 (load_rows _ 2 256 rfl _)) (congrArg k0_pay5 (load_rows _ 1 128 rfl _)) (congrArg k0_pay5 (load_rows _ 0 0 rfl _)))).trans (load_xqR _ _)) (load_wbD _ i _) ((readCov_of arg10.view _ _ _ (read_tiled arg10.view _ k0_pay7 _ _ _ _ _ _ _ _ _ (congrArg k0_pay7 (load_rows _ 3 384 rfl _)) (congrArg k0_pay7 (load_rows _ 2 256 rfl _)) (congrArg k0_pay7 (load_rows _ 1 128 rfl _)) (congrArg k0_pay7 (load_rows _ 0 0 rfl _)))).trans (load_whole2 _ _)) (load_whole2 _ _))
    isplitl [H4]
    · iexists _; isplitr; swap; iexact H4; ipureintro; exact read_tiled arg6.view _ k0_pay4 _ _ _ _ _ _ _ _ _ (congrArg k0_pay4 (load_rows _ 3 384 rfl _)) (congrArg k0_pay4 (load_rows _ 2 256 rfl _)) (congrArg k0_pay4 (load_rows _ 1 128 rfl _)) (congrArg k0_pay4 (load_rows _ 0 0 rfl _))
    isplitl [H5]
    · iexists _; isplitr; swap; iexact H5; ipureintro
      have hR : arg11.view.read (Elt F) (arg11.view.writes (Elt F) fs3 (run_E.sl.HS3_4 c i arg2 hc1 f0))
          = rowsStep (i 0).val (arg2.view.read (Elt F) f0) (arg11.view.read (Elt F) fs3) := read_rowsStep arg11.view _ i _ _ _ _ _ _ _ _ _ (congrArg rowG (load_rows _ 3 384 rfl _)) (congrArg rowG (load_rows _ 2 256 rfl _)) (congrArg rowG (load_rows _ 1 128 rfl _)) (congrArg rowG (load_rows _ 0 0 rfl _))
      funext y
      refine View.read_writes_apply_of_pieces arg7.view f5 (xsB (rowsStep (i 0).val (arg2.view.read (Elt F) f0) (arg11.view.read (Elt F) fs3))) _ ?_ y ?_
      · exact (List.forall_mem_cons.2 ⟨piece_xs arg11.view 7 14 119 1792 rfl rfl (by decide) (by decide) (by decide) _ _ hR,
      List.forall_mem_cons.2 ⟨piece_xs arg11.view 7 13 118 1664 rfl rfl (by decide) (by decide) (by decide) _ _ hR,
      List.forall_mem_cons.2 ⟨piece_xs arg11.view 7 12 117 1536 rfl rfl (by decide) (by decide) (by decide) _ _ hR,
      List.forall_mem_cons.2 ⟨piece_xs arg11.view 7 11 116 1408 rfl rfl (by decide) (by decide) (by decide) _ _ hR,
      List.forall_mem_cons.2 ⟨piece_xs arg11.view 7 10 115 1280 rfl rfl (by decide) (by decide) (by decide) _ _ hR,
      List.forall_mem_cons.2 ⟨piece_xs arg11.view 7 9 114 1152 rfl rfl (by decide) (by decide) (by decide) _ _ hR,
      List.forall_mem_cons.2 ⟨piece_xs arg11.view 7 8 113 1024 rfl rfl (by decide) (by decide) (by decide) _ _ hR,
      List.forall_mem_cons.2 ⟨piece_xs arg11.view 7 7 112 896 rfl rfl (by decide) (by decide) (by decide) _ _ hR,
      List.forall_mem_cons.2 ⟨piece_xs arg11.view 7 6 111 768 rfl rfl (by decide) (by decide) (by decide) _ _ hR,
      List.forall_mem_cons.2 ⟨piece_xs arg11.view 7 5 110 640 rfl rfl (by decide) (by decide) (by decide) _ _ hR,
      List.forall_mem_cons.2 ⟨piece_xs arg11.view 7 4 109 512 rfl rfl (by decide) (by decide) (by decide) _ _ hR,
      List.forall_mem_cons.2 ⟨piece_xs arg11.view 7 3 108 384 rfl rfl (by decide) (by decide) (by decide) _ _ hR,
      List.forall_mem_cons.2 ⟨piece_xs arg11.view 7 2 107 256 rfl rfl (by decide) (by decide) (by decide) _ _ hR,
      List.forall_mem_cons.2 ⟨piece_xs arg11.view 7 1 106 128 rfl rfl (by decide) (by decide) (by decide) _ _ hR,
      List.forall_mem_cons.2 ⟨piece_xs arg11.view 7 0 105 0 rfl rfl (by decide) (by decide) (by decide) _ _ hR,
      List.forall_mem_cons.2 ⟨piece_xs arg11.view 6 14 104 1792 rfl rfl (by decide) (by decide) (by decide) _ _ hR,
      List.forall_mem_cons.2 ⟨piece_xs arg11.view 6 13 103 1664 rfl rfl (by decide) (by decide) (by decide) _ _ hR,
      List.forall_mem_cons.2 ⟨piece_xs arg11.view 6 12 102 1536 rfl rfl (by decide) (by decide) (by decide) _ _ hR,
      List.forall_mem_cons.2 ⟨piece_xs arg11.view 6 11 101 1408 rfl rfl (by decide) (by decide) (by decide) _ _ hR,
      List.forall_mem_cons.2 ⟨piece_xs arg11.view 6 10 100 1280 rfl rfl (by decide) (by decide) (by decide) _ _ hR,
      List.forall_mem_cons.2 ⟨piece_xs arg11.view 6 9 99 1152 rfl rfl (by decide) (by decide) (by decide) _ _ hR,
      List.forall_mem_cons.2 ⟨piece_xs arg11.view 6 8 98 1024 rfl rfl (by decide) (by decide) (by decide) _ _ hR,
      List.forall_mem_cons.2 ⟨piece_xs arg11.view 6 7 97 896 rfl rfl (by decide) (by decide) (by decide) _ _ hR,
      List.forall_mem_cons.2 ⟨piece_xs arg11.view 6 6 96 768 rfl rfl (by decide) (by decide) (by decide) _ _ hR,
      List.forall_mem_cons.2 ⟨piece_xs arg11.view 6 5 95 640 rfl rfl (by decide) (by decide) (by decide) _ _ hR,
      List.forall_mem_cons.2 ⟨piece_xs arg11.view 6 4 94 512 rfl rfl (by decide) (by decide) (by decide) _ _ hR,
      List.forall_mem_cons.2 ⟨piece_xs arg11.view 6 3 93 384 rfl rfl (by decide) (by decide) (by decide) _ _ hR,
      List.forall_mem_cons.2 ⟨piece_xs arg11.view 6 2 92 256 rfl rfl (by decide) (by decide) (by decide) _ _ hR,
      List.forall_mem_cons.2 ⟨piece_xs arg11.view 6 1 91 128 rfl rfl (by decide) (by decide) (by decide) _ _ hR,
      List.forall_mem_cons.2 ⟨piece_xs arg11.view 6 0 90 0 rfl rfl (by decide) (by decide) (by decide) _ _ hR,
      List.forall_mem_cons.2 ⟨piece_xs arg11.view 5 14 89 1792 rfl rfl (by decide) (by decide) (by decide) _ _ hR,
      List.forall_mem_cons.2 ⟨piece_xs arg11.view 5 13 88 1664 rfl rfl (by decide) (by decide) (by decide) _ _ hR,
      List.forall_mem_cons.2 ⟨piece_xs arg11.view 5 12 87 1536 rfl rfl (by decide) (by decide) (by decide) _ _ hR,
      List.forall_mem_cons.2 ⟨piece_xs arg11.view 5 11 86 1408 rfl rfl (by decide) (by decide) (by decide) _ _ hR,
      List.forall_mem_cons.2 ⟨piece_xs arg11.view 5 10 85 1280 rfl rfl (by decide) (by decide) (by decide) _ _ hR,
      List.forall_mem_cons.2 ⟨piece_xs arg11.view 5 9 84 1152 rfl rfl (by decide) (by decide) (by decide) _ _ hR,
      List.forall_mem_cons.2 ⟨piece_xs arg11.view 5 8 83 1024 rfl rfl (by decide) (by decide) (by decide) _ _ hR,
      List.forall_mem_cons.2 ⟨piece_xs arg11.view 5 7 82 896 rfl rfl (by decide) (by decide) (by decide) _ _ hR,
      List.forall_mem_cons.2 ⟨piece_xs arg11.view 5 6 81 768 rfl rfl (by decide) (by decide) (by decide) _ _ hR,
      List.forall_mem_cons.2 ⟨piece_xs arg11.view 5 5 80 640 rfl rfl (by decide) (by decide) (by decide) _ _ hR,
      List.forall_mem_cons.2 ⟨piece_xs arg11.view 5 4 79 512 rfl rfl (by decide) (by decide) (by decide) _ _ hR,
      List.forall_mem_cons.2 ⟨piece_xs arg11.view 5 3 78 384 rfl rfl (by decide) (by decide) (by decide) _ _ hR,
      List.forall_mem_cons.2 ⟨piece_xs arg11.view 5 2 77 256 rfl rfl (by decide) (by decide) (by decide) _ _ hR,
      List.forall_mem_cons.2 ⟨piece_xs arg11.view 5 1 76 128 rfl rfl (by decide) (by decide) (by decide) _ _ hR,
      List.forall_mem_cons.2 ⟨piece_xs arg11.view 5 0 75 0 rfl rfl (by decide) (by decide) (by decide) _ _ hR,
      List.forall_mem_cons.2 ⟨piece_xs arg11.view 4 14 74 1792 rfl rfl (by decide) (by decide) (by decide) _ _ hR,
      List.forall_mem_cons.2 ⟨piece_xs arg11.view 4 13 73 1664 rfl rfl (by decide) (by decide) (by decide) _ _ hR,
      List.forall_mem_cons.2 ⟨piece_xs arg11.view 4 12 72 1536 rfl rfl (by decide) (by decide) (by decide) _ _ hR,
      List.forall_mem_cons.2 ⟨piece_xs arg11.view 4 11 71 1408 rfl rfl (by decide) (by decide) (by decide) _ _ hR,
      List.forall_mem_cons.2 ⟨piece_xs arg11.view 4 10 70 1280 rfl rfl (by decide) (by decide) (by decide) _ _ hR,
      List.forall_mem_cons.2 ⟨piece_xs arg11.view 4 9 69 1152 rfl rfl (by decide) (by decide) (by decide) _ _ hR,
      List.forall_mem_cons.2 ⟨piece_xs arg11.view 4 8 68 1024 rfl rfl (by decide) (by decide) (by decide) _ _ hR,
      List.forall_mem_cons.2 ⟨piece_xs arg11.view 4 7 67 896 rfl rfl (by decide) (by decide) (by decide) _ _ hR,
      List.forall_mem_cons.2 ⟨piece_xs arg11.view 4 6 66 768 rfl rfl (by decide) (by decide) (by decide) _ _ hR,
      List.forall_mem_cons.2 ⟨piece_xs arg11.view 4 5 65 640 rfl rfl (by decide) (by decide) (by decide) _ _ hR,
      List.forall_mem_cons.2 ⟨piece_xs arg11.view 4 4 64 512 rfl rfl (by decide) (by decide) (by decide) _ _ hR,
      List.forall_mem_cons.2 ⟨piece_xs arg11.view 4 3 63 384 rfl rfl (by decide) (by decide) (by decide) _ _ hR,
      List.forall_mem_cons.2 ⟨piece_xs arg11.view 4 2 62 256 rfl rfl (by decide) (by decide) (by decide) _ _ hR,
      List.forall_mem_cons.2 ⟨piece_xs arg11.view 4 1 61 128 rfl rfl (by decide) (by decide) (by decide) _ _ hR,
      List.forall_mem_cons.2 ⟨piece_xs arg11.view 4 0 60 0 rfl rfl (by decide) (by decide) (by decide) _ _ hR,
      List.forall_mem_cons.2 ⟨piece_xs arg11.view 3 14 59 1792 rfl rfl (by decide) (by decide) (by decide) _ _ hR,
      List.forall_mem_cons.2 ⟨piece_xs arg11.view 3 13 58 1664 rfl rfl (by decide) (by decide) (by decide) _ _ hR,
      List.forall_mem_cons.2 ⟨piece_xs arg11.view 3 12 57 1536 rfl rfl (by decide) (by decide) (by decide) _ _ hR,
      List.forall_mem_cons.2 ⟨piece_xs arg11.view 3 11 56 1408 rfl rfl (by decide) (by decide) (by decide) _ _ hR,
      List.forall_mem_cons.2 ⟨piece_xs arg11.view 3 10 55 1280 rfl rfl (by decide) (by decide) (by decide) _ _ hR,
      List.forall_mem_cons.2 ⟨piece_xs arg11.view 3 9 54 1152 rfl rfl (by decide) (by decide) (by decide) _ _ hR,
      List.forall_mem_cons.2 ⟨piece_xs arg11.view 3 8 53 1024 rfl rfl (by decide) (by decide) (by decide) _ _ hR,
      List.forall_mem_cons.2 ⟨piece_xs arg11.view 3 7 52 896 rfl rfl (by decide) (by decide) (by decide) _ _ hR,
      List.forall_mem_cons.2 ⟨piece_xs arg11.view 3 6 51 768 rfl rfl (by decide) (by decide) (by decide) _ _ hR,
      List.forall_mem_cons.2 ⟨piece_xs arg11.view 3 5 50 640 rfl rfl (by decide) (by decide) (by decide) _ _ hR,
      List.forall_mem_cons.2 ⟨piece_xs arg11.view 3 4 49 512 rfl rfl (by decide) (by decide) (by decide) _ _ hR,
      List.forall_mem_cons.2 ⟨piece_xs arg11.view 3 3 48 384 rfl rfl (by decide) (by decide) (by decide) _ _ hR,
      List.forall_mem_cons.2 ⟨piece_xs arg11.view 3 2 47 256 rfl rfl (by decide) (by decide) (by decide) _ _ hR,
      List.forall_mem_cons.2 ⟨piece_xs arg11.view 3 1 46 128 rfl rfl (by decide) (by decide) (by decide) _ _ hR,
      List.forall_mem_cons.2 ⟨piece_xs arg11.view 3 0 45 0 rfl rfl (by decide) (by decide) (by decide) _ _ hR,
      List.forall_mem_cons.2 ⟨piece_xs arg11.view 2 14 44 1792 rfl rfl (by decide) (by decide) (by decide) _ _ hR,
      List.forall_mem_cons.2 ⟨piece_xs arg11.view 2 13 43 1664 rfl rfl (by decide) (by decide) (by decide) _ _ hR,
      List.forall_mem_cons.2 ⟨piece_xs arg11.view 2 12 42 1536 rfl rfl (by decide) (by decide) (by decide) _ _ hR,
      List.forall_mem_cons.2 ⟨piece_xs arg11.view 2 11 41 1408 rfl rfl (by decide) (by decide) (by decide) _ _ hR,
      List.forall_mem_cons.2 ⟨piece_xs arg11.view 2 10 40 1280 rfl rfl (by decide) (by decide) (by decide) _ _ hR,
      List.forall_mem_cons.2 ⟨piece_xs arg11.view 2 9 39 1152 rfl rfl (by decide) (by decide) (by decide) _ _ hR,
      List.forall_mem_cons.2 ⟨piece_xs arg11.view 2 8 38 1024 rfl rfl (by decide) (by decide) (by decide) _ _ hR,
      List.forall_mem_cons.2 ⟨piece_xs arg11.view 2 7 37 896 rfl rfl (by decide) (by decide) (by decide) _ _ hR,
      List.forall_mem_cons.2 ⟨piece_xs arg11.view 2 6 36 768 rfl rfl (by decide) (by decide) (by decide) _ _ hR,
      List.forall_mem_cons.2 ⟨piece_xs arg11.view 2 5 35 640 rfl rfl (by decide) (by decide) (by decide) _ _ hR,
      List.forall_mem_cons.2 ⟨piece_xs arg11.view 2 4 34 512 rfl rfl (by decide) (by decide) (by decide) _ _ hR,
      List.forall_mem_cons.2 ⟨piece_xs arg11.view 2 3 33 384 rfl rfl (by decide) (by decide) (by decide) _ _ hR,
      List.forall_mem_cons.2 ⟨piece_xs arg11.view 2 2 32 256 rfl rfl (by decide) (by decide) (by decide) _ _ hR,
      List.forall_mem_cons.2 ⟨piece_xs arg11.view 2 1 31 128 rfl rfl (by decide) (by decide) (by decide) _ _ hR,
      List.forall_mem_cons.2 ⟨piece_xs arg11.view 2 0 30 0 rfl rfl (by decide) (by decide) (by decide) _ _ hR,
      List.forall_mem_cons.2 ⟨piece_xs arg11.view 1 14 29 1792 rfl rfl (by decide) (by decide) (by decide) _ _ hR,
      List.forall_mem_cons.2 ⟨piece_xs arg11.view 1 13 28 1664 rfl rfl (by decide) (by decide) (by decide) _ _ hR,
      List.forall_mem_cons.2 ⟨piece_xs arg11.view 1 12 27 1536 rfl rfl (by decide) (by decide) (by decide) _ _ hR,
      List.forall_mem_cons.2 ⟨piece_xs arg11.view 1 11 26 1408 rfl rfl (by decide) (by decide) (by decide) _ _ hR,
      List.forall_mem_cons.2 ⟨piece_xs arg11.view 1 10 25 1280 rfl rfl (by decide) (by decide) (by decide) _ _ hR,
      List.forall_mem_cons.2 ⟨piece_xs arg11.view 1 9 24 1152 rfl rfl (by decide) (by decide) (by decide) _ _ hR,
      List.forall_mem_cons.2 ⟨piece_xs arg11.view 1 8 23 1024 rfl rfl (by decide) (by decide) (by decide) _ _ hR,
      List.forall_mem_cons.2 ⟨piece_xs arg11.view 1 7 22 896 rfl rfl (by decide) (by decide) (by decide) _ _ hR,
      List.forall_mem_cons.2 ⟨piece_xs arg11.view 1 6 21 768 rfl rfl (by decide) (by decide) (by decide) _ _ hR,
      List.forall_mem_cons.2 ⟨piece_xs arg11.view 1 5 20 640 rfl rfl (by decide) (by decide) (by decide) _ _ hR,
      List.forall_mem_cons.2 ⟨piece_xs arg11.view 1 4 19 512 rfl rfl (by decide) (by decide) (by decide) _ _ hR,
      List.forall_mem_cons.2 ⟨piece_xs arg11.view 1 3 18 384 rfl rfl (by decide) (by decide) (by decide) _ _ hR,
      List.forall_mem_cons.2 ⟨piece_xs arg11.view 1 2 17 256 rfl rfl (by decide) (by decide) (by decide) _ _ hR,
      List.forall_mem_cons.2 ⟨piece_xs arg11.view 1 1 16 128 rfl rfl (by decide) (by decide) (by decide) _ _ hR,
      List.forall_mem_cons.2 ⟨piece_xs arg11.view 1 0 15 0 rfl rfl (by decide) (by decide) (by decide) _ _ hR,
      List.forall_mem_cons.2 ⟨piece_xs arg11.view 0 14 14 1792 rfl rfl (by decide) (by decide) (by decide) _ _ hR,
      List.forall_mem_cons.2 ⟨piece_xs arg11.view 0 13 13 1664 rfl rfl (by decide) (by decide) (by decide) _ _ hR,
      List.forall_mem_cons.2 ⟨piece_xs arg11.view 0 12 12 1536 rfl rfl (by decide) (by decide) (by decide) _ _ hR,
      List.forall_mem_cons.2 ⟨piece_xs arg11.view 0 11 11 1408 rfl rfl (by decide) (by decide) (by decide) _ _ hR,
      List.forall_mem_cons.2 ⟨piece_xs arg11.view 0 10 10 1280 rfl rfl (by decide) (by decide) (by decide) _ _ hR,
      List.forall_mem_cons.2 ⟨piece_xs arg11.view 0 9 9 1152 rfl rfl (by decide) (by decide) (by decide) _ _ hR,
      List.forall_mem_cons.2 ⟨piece_xs arg11.view 0 8 8 1024 rfl rfl (by decide) (by decide) (by decide) _ _ hR,
      List.forall_mem_cons.2 ⟨piece_xs arg11.view 0 7 7 896 rfl rfl (by decide) (by decide) (by decide) _ _ hR,
      List.forall_mem_cons.2 ⟨piece_xs arg11.view 0 6 6 768 rfl rfl (by decide) (by decide) (by decide) _ _ hR,
      List.forall_mem_cons.2 ⟨piece_xs arg11.view 0 5 5 640 rfl rfl (by decide) (by decide) (by decide) _ _ hR,
      List.forall_mem_cons.2 ⟨piece_xs arg11.view 0 4 4 512 rfl rfl (by decide) (by decide) (by decide) _ _ hR,
      List.forall_mem_cons.2 ⟨piece_xs arg11.view 0 3 3 384 rfl rfl (by decide) (by decide) (by decide) _ _ hR,
      List.forall_mem_cons.2 ⟨piece_xs arg11.view 0 2 2 256 rfl rfl (by decide) (by decide) (by decide) _ _ hR,
      List.forall_mem_cons.2 ⟨piece_xs arg11.view 0 1 1 128 rfl rfl (by decide) (by decide) (by decide) _ _ hR,
      List.forall_mem_cons.2 ⟨piece_xs arg11.view 0 0 0 0 rfl rfl (by decide) (by decide) (by decide) _ _ hR,
      List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩)
      · exact View.cover_of_tiledL (s := S8x1920) _ ![1, 128] (by rfl) y
    isplitl [HS0]
    · iexists _; isplitr; swap; iexact HS0; ipureintro; exact rfl
    isplitl [HS1]
    · iexists _; isplitr; swap; iexact HS1; ipureintro; exact read_tiled arg9.view _ k0_pay5 _ _ _ _ _ _ _ _ _ (congrArg k0_pay5 (load_rows _ 3 384 rfl _)) (congrArg k0_pay5 (load_rows _ 2 256 rfl _)) (congrArg k0_pay5 (load_rows _ 1 128 rfl _)) (congrArg k0_pay5 (load_rows _ 0 0 rfl _))
    isplitl [HS2]
    · iexists _; isplitr; swap; iexact HS2; ipureintro; exact read_tiled arg10.view _ k0_pay7 _ _ _ _ _ _ _ _ _ (congrArg k0_pay7 (load_rows _ 3 384 rfl _)) (congrArg k0_pay7 (load_rows _ 2 256 rfl _)) (congrArg k0_pay7 (load_rows _ 1 128 rfl _)) (congrArg k0_pay7 (load_rows _ 0 0 rfl _))
    iexists _; isplitr; swap; iexact HS3; ipureintro; exact read_rowsStep arg11.view _ i _ _ _ _ _ _ _ _ _ (congrArg rowG (load_rows _ 3 384 rfl _)) (congrArg rowG (load_rows _ 2 256 rfl _)) (congrArg rowG (load_rows _ 1 128 rfl _)) (congrArg rowG (load_rows _ 0 0 rfl _))

end Cert.KernelIdeal.Hand

end
-- ==== Proof.Data.lean ====
/-
  The proof data of the kernel's pipeline: what the carried scratch buffers hold before every grid point, and what the
  body leaves in every staging buffer.
-/
module

public import proofs.«01_k».proof.Proof.RunE
public import Idealize.ShloMosaic.Lib.Pipeline.TableIdle
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid and the blocks -/

/-- The grid has 120 points. -/
theorem lt120 (t : Fin cfg0.N) : t.val < 120 := lt_of_lt_of_eq t.isLt (show cfg0.N = 120 from N_0)

theorem coord0 (t : Fin cfg0.N) : (grid0.coords t 0).val = t.val / 4 := by
  have ht := lt120 t
  have : (grid0.coords t 0).val = t.val / 4 % 30 := Pipeline.Grid.coords_val t 0 (by decide) rfl
  omega
theorem coord1 (t : Fin cfg0.N) : (grid0.coords t 1).val = t.val % 4 := by
  have : (grid0.coords t 1).val = t.val / 1 % 4 := Pipeline.Grid.coords_val t 1 (by decide) rfl
  omega

/-- The block index of each window, in closed form. -/
theorem index0 : ∀ t : Fin cfg0.N, win0_0.index t (0 : Fin 2) = t.val / 4 ∧ win0_0.index t (1 : Fin 2) = 0 :=
  (by decide +kernel : ∀ t : Fin grid0.N, _)
theorem index1 : ∀ t : Fin cfg0.N, win0_1.index t (0 : Fin 2) = 0 ∧ win0_1.index t (1 : Fin 2) = (if t.val < 4 then t.val else 3) :=
  (by decide +kernel : ∀ t : Fin grid0.N, _)
theorem index2 : ∀ t : Fin cfg0.N, win0_2.index t (0 : Fin 2) = 0 ∧ win0_2.index t (1 : Fin 2) = t.val % 4 :=
  (by decide +kernel : ∀ t : Fin grid0.N, _)
theorem index3 : ∀ t : Fin cfg0.N, win0_3.index t (0 : Fin 2) = t.val / 4 ∧ win0_3.index t (1 : Fin 2) = t.val % 4 :=
  (by decide +kernel : ∀ t : Fin grid0.N, _)
theorem index4 : ∀ t : Fin cfg0.N, win0_4.index t (0 : Fin 2) = t.val / 4 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)

/-- Where the two outputs stored under a condition are idle. -/
theorem idle3 : ∀ t : Fin cfg0.N, cfg0.idle 3 (grid0.coords t) = false := fun _ => rfl
theorem idle4 : ∀ t : Fin cfg0.N, cfg0.idle 4 (grid0.coords t) = !decide (t.val % 4 = 0) :=
  (by decide +kernel : ∀ t : Fin grid0.N, _)
theorem idle5 : ∀ t : Fin cfg0.N, cfg0.idle 5 (grid0.coords t) = !decide (t.val = 116) :=
  (by decide +kernel : ∀ t : Fin grid0.N, _)
/-- Their buffers hold nothing stored only before the first store of a block. -/
theorem fresh4 : ∀ t : Fin cfg0.N, cfg0.fresh 4 t.val = decide (t.val % 4 = 0) :=
  (by decide +kernel : ∀ t : Fin grid0.N, _)
theorem fresh5 : ∀ t : Fin cfg0.N, cfg0.fresh 5 t.val = decide (t.val ≤ 116) :=
  (by decide +kernel : ∀ t : Fin grid0.N, _)

/-- The point `4 i`, the first of row block `i`. -/
def pt (i : ℕ) : Fin cfg0.N := ⟨4 * (i % 30), by rw [show cfg0.N = 120 from N_0]; omega⟩

/-- Block `i` of 512 rows of the activations. -/
def xblk (c : Dev nD) (i : ℕ) : Vec F S512x2048 .bf16 := iblk m c 0 (pt i)
/-- Block `j` of 1408 columns of the weight. -/
def wblk (c : Dev nD) (j : Fin 4) : Vec F S2048x1408 .i8 := iblk m c 1 ⟨j.val, by rw [show cfg0.N = 120 from N_0]; omega⟩

theorem iblk0_apply (c : Dev nD) (t : Fin cfg0.N) (r : Fin 512) (l : Fin 2048) :
    (iblk m c 0 t : Vec F S512x2048 .bf16) (ix2 r l) = V m c main_v0 (ix2 ⟨512 * (t.val / 4) + r.val, by have := lt120 t; omega⟩ l) := by
  have h := index0 t
  blk_ext [iblk, h.1, h.2]

theorem iblk0_eq (c : Dev nD) (t : Fin cfg0.N) : (iblk m c 0 t : Vec F S512x2048 .bf16) = xblk m c (t.val / 4) := by
  have ht := lt120 t
  funext y
  obtain ⟨r, l, rfl⟩ : ∃ (r : Fin 512) (l : Fin 2048), y = ix2 r l := ⟨y 0, y 1, by funext a; fin_cases a <;> rfl⟩
  unfold xblk
  rw [iblk0_apply, iblk0_apply]
  refine congrArg _ ?_
  congr 1
  refine Fin.ext ?_
  show 512 * (t.val / 4) + r.val = 512 * (4 * (t.val / 4 % 30) / 4) + r.val
  omega

/-- The whole stacked weight, converted. -/
def WB (c : Dev nD) : Vec F S4x2048x1408 .bf16 :=
  fun y => k0_pay35 (wblk m c (y 0)) (ix3 0 ⟨(y 1).val, (y 1).isLt⟩ ⟨(y 2).val, (y 2).isLt⟩)
/-- The whole table of scale rows. -/
def RS (c : Dev nD) : Vec F S120x128 .f32 :=
  fun y => rowG (rows128 (xblk m c ((y 0).val / 4)) ⟨(y 0).val % 4, Nat.mod_lt _ (by decide)⟩) (ix2 0 ⟨(y 1).val, (y 1).isLt⟩)

/-! ## What the scratch holds before point `n` -/

/-- Before point `n`: the first `n` slabs of the stacked weight are in place; inside a row block its codes and scales
    are; the rows of scales of the row blocks begun are. -/
structure Inv (c : Dev nD) (n : ℕ) (S0 : Vec F S4x2048x1408 .bf16) (S1 : Vec F S512x2048 .bf16) (S2 : Vec F S512x128 .f32) (S3 : Vec F S120x128 .f32) : Prop where
  w : ∀ y, (y 0).val < n → S0 y = WB m c y
  x : n % 4 ≠ 0 → S1 = xqB (xblk m c (n / 4)) ∧ S2 = scB (xblk m c (n / 4))
  r : ∀ y, (y 0).val < 4 * ((n + 3) / 4) → S3 y = RS m c y

variable {m}

/-- The store of the slab of point `t < 4` extends the stacked weight; -/
theorem w_step {c : Dev nD} {t : Fin cfg0.N} (ht : t.val < 4) {S0 : Vec F S4x2048x1408 .bf16} (h : ∀ y, (y 0).val < t.val → S0 y = WB m c y) :
    ∀ y, (y 0).val < t.val + 1 → wbStep (grid0.coords t 1).val (iblk m c 1 t : Vec F S2048x1408 .i8) S0 y = WB m c y := by
  intro y hy
  have h1 := coord1 t
  unfold wbStep
  split
  · rename_i e
    unfold WB wblk
    have : (⟨(y 0).val, by rw [show cfg0.N = 120 from N_0]; have := (y 0).isLt; change (y 0).val < 4 at this; omega⟩ : Fin cfg0.N) = t := Fin.ext (by show (y 0).val = t.val; omega)
    rw [← this]
  · exact h y (by omega)

/-- the loads of the slab of the point's column block find it whole. -/
theorem wbU_WB {c : Dev nD} (j : Fin 4) {S0 : Vec F S4x2048x1408 .bf16} (h : ∀ y, y 0 = j → S0 y = WB m c y) : wbU j S0 = wbU j (WB m c) := by
  funext y; exact h _ rfl
theorem wbD_WB {c : Dev nD} (j : Fin 4) {S0 : Vec F S4x2048x1408 .bf16} (h : ∀ y, y 0 = j → S0 y = WB m c y) : wbD j S0 = wbD j (WB m c) := by
  funext y; exact h _ rfl
theorem yB_WB {c : Dev nD} (j : Fin 4) {S0 : Vec F S4x2048x1408 .bf16} (h : ∀ y, y 0 = j → S0 y = WB m c y) (S1 S2 x2) :
    yB j S0 S1 S2 x2 = yB j (WB m c) S1 S2 x2 := by
  unfold yB; rw [wbU_WB j h, wbD_WB j h]

/-- The rows of scales of the row block begun at point `t` extend the table. -/
theorem r_step {c : Dev nD} {t : Fin cfg0.N} (ht : t.val % 4 = 0) {S3 : Vec F S120x128 .f32} (h : ∀ y, (y 0).val < 4 * ((t.val + 3) / 4) → S3 y = RS m c y) :
    ∀ y, (y 0).val < 4 * ((t.val + 1 + 3) / 4) → rowsStep (grid0.coords t 0).val (iblk m c 0 t : Vec F S512x2048 .bf16) S3 y = RS m c y := by
  intro y hy
  have h0 := coord0 t
  unfold rowsStep
  split
  · rename_i e
    unfold RS
    rw [iblk0_eq, e, h0]
  · exact h y (by omega)

/-- The assembled scales read the table everywhere. -/
theorem xsB_RS {c : Dev nD} {S3 : Vec F S120x128 .f32} (h : ∀ y, (y 0).val < 120 → S3 y = RS m c y) : xsB S3 = xsB (RS m c) := by
  have : S3 = RS m c := funext fun y => h y (y 0).isLt
  rw [this]

variable (m)

/-! ## The proof data -/

/-- The invariant carried from point to point: the scratch buffers at contents `Inv` describes, and the generator register. -/
def Phi (c : Dev nD) (n : ℕ) : sProp 𝕄 :=
  iprop(∃ S0, ∃ S1, ∃ S2, ∃ S3, ⌜Inv m c n S0 S1 S2 S3⌝ ∗ owns (c : Thread nD τ) scM0_0 fullShare S0 ∗ owns (c : Thread nD τ) scM0_1 fullShare S1
    ∗ owns (c : Thread nD τ) scM0_2 fullShare S2 ∗ owns (c : Thread nD τ) scM0_3 fullShare S3 ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yB (grid0.coords t 1) (WB m c) (xqB (xblk m c (t.val / 4))) (scB (xblk m c (t.val / 4))) (iblk m c 2 t)
    | ⟨4, _⟩ => codesB (xblk m c (t.val / 4))
    | ⟨5, _⟩ => xsB (RS m c)
  Φ n := Phi m c n.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t
    = yB (grid0.coords t 1) (WB m c) (xqB (xblk m c (t.val / 4))) (scB (xblk m c (t.val / 4))) (iblk m c 2 t) := by dsimp only [dats]
theorem after0_4 (c : Dev nD) (t : Fin cfg0.N) : (dats m 0 c).after 4 t = codesB (xblk m c (t.val / 4)) := by dsimp only [dats]
theorem after0_5 (c : Dev nD) (t : Fin cfg0.N) : (dats m 0 c).after 5 t = xsB (RS m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later point of a row block the codes' buffer holds the row block's codes; -/
theorem before0_4 (c : Dev nD) (t : Fin cfg0.N) (ht : t.val % 4 ≠ 0) (d) : (dats m 0 c).before 4 t d = codesB (xblk m c (t.val / 4)) := by
  refine (Pipeline.Dat.before_out_traj (dats m 0 c) 4 rfl (fun _ _ => rfl) (fun s hs hi hf => ?_) t.val t rfl d).trans ?_
  · rw [fresh4] at hf
    have hf' : ¬ s.val % 4 = 0 := of_decide_eq_false hf
    rw [after0_4, after0_4]
    have : (s.val - 1) / 4 = s.val / 4 := by omega
    show _ = codesB (xblk m c ((s.val - 1) / 4))
    rw [this]
  · rw [fresh4, decide_eq_false ht, after0_4]
    have : (t.val - 1) / 4 = t.val / 4 := by omega
    show codesB (xblk m c ((t.val - 1) / 4)) = _
    rw [this]

/-- after the last row block's first point the scales' buffer holds the assembled scales. -/
theorem before0_5 (c : Dev nD) (t : Fin cfg0.N) (ht : 116 < t.val) (d) : (dats m 0 c).before 5 t d = xsB (RS m c) := by
  refine (Pipeline.Dat.before_out_traj (dats m 0 c) 5 rfl (fun _ _ => rfl) (fun s hs hi hf => ?_) t.val t rfl d).trans ?_
  · rw [after0_5, after0_5]
  · rw [fresh5, decide_eq_false (by omega), after0_5]
    rfl

end Cert.KernelIdeal.Hand

end
-- ==== Proof.Body.lean ====
/-
  The body's obligation at every grid point, from the run of each case of its conditions; then the launch, and the
  frame.
-/
module

public import proofs.«01_k».proof.Proof.Data

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant and the output block across a point, case by case -/

variable {m}

section steps
variable {c : Dev nD} {t : Fin cfg0.N} {S0 : Vec F S4x2048x1408 .bf16} {S1 : Vec F S512x2048 .bf16} {S2 : Vec F S512x128 .f32} {S3 : Vec F S120x128 .f32}
  (hI : Inv m c t.val S0 S1 S2 S3)
include hI

theorem inv_A (h0 : t.val < 4) (h1 : t.val % 4 = 0) : Inv m c (t.val + 1) (wbStep (grid0.coords t 1).val (iblk m c 1 t) S0)
    (xqB (iblk m c 0 t)) (scB (iblk m c 0 t)) (rowsStep (grid0.coords t 0).val (iblk m c 0 t) S3) := by
  refine ⟨w_step h0 hI.w, fun _ => ?_, r_step h1 hI.r⟩
  have e : (t.val + 1) / 4 = t.val / 4 := by omega
  rw [iblk0_eq, e]; exact ⟨rfl, rfl⟩

theorem inv_B (h0 : t.val < 4) (h1 : ¬t.val % 4 = 0) : Inv m c (t.val + 1) (wbStep (grid0.coords t 1).val (iblk m c 1 t) S0) S1 S2 S3 := by
  refine ⟨w_step h0 hI.w, fun _ => ?_, fun y hy => hI.r y (by omega)⟩
  have e : (t.val + 1) / 4 = t.val / 4 := by omega
  rw [e]; exact hI.x h1

theorem inv_C (h0 : ¬t.val < 4) (h1 : t.val % 4 = 0) : Inv m c (t.val + 1) S0
    (xqB (iblk m c 0 t)) (scB (iblk m c 0 t)) (rowsStep (grid0.coords t 0).val (iblk m c 0 t) S3) := by
  refine ⟨fun y hy => hI.w y (by have := (y 0).isLt; change (y 0).val < 4 at this; omega), fun _ => ?_, r_step h1 hI.r⟩
  have e : (t.val + 1) / 4 = t.val / 4 := by omega
  rw [iblk0_eq, e]; exact ⟨rfl, rfl⟩

theorem inv_D (h0 : ¬t.val < 4) (h1 : ¬t.val % 4 = 0) : Inv m c (t.val + 1) S0 S1 S2 S3 := by
  refine ⟨fun y hy => hI.w y (by have := (y 0).isLt; change (y 0).val < 4 at this; omega), fun hn => ?_, fun y hy => hI.r y (by omega)⟩
  have e : (t.val + 1) / 4 = t.val / 4 := by omega
  rw [e]; exact hI.x h1

theorem y_A (h0 : t.val < 4) (h1 : t.val % 4 = 0) :
    yB (grid0.coords t 1) (wbStep (grid0.coords t 1).val (iblk m c 1 t) S0) (xqB (iblk m c 0 t)) (scB (iblk m c 0 t)) (iblk m c 2 t)
      = yB (grid0.coords t 1) (WB m c) (xqB (xblk m c (t.val / 4))) (scB (xblk m c (t.val / 4))) (iblk m c 2 t) := by
  rw [iblk0_eq]
  refine yB_WB _ (fun y hy => w_step h0 hI.w y ?_) _ _ _
  have h := coord1 t; have h' : (y 0).val = (grid0.coords t 1).val := congrArg Fin.val hy; omega

theorem y_B (h0 : t.val < 4) (h1 : ¬t.val % 4 = 0) :
    yB (grid0.coords t 1) (wbStep (grid0.coords t 1).val (iblk m c 1 t) S0) S1 S2 (iblk m c 2 t)
      = yB (grid0.coords t 1) (WB m c) (xqB (xblk m c (t.val / 4))) (scB (xblk m c (t.val / 4))) (iblk m c 2 t) := by
  rw [(hI.x h1).1, (hI.x h1).2]
  refine yB_WB _ (fun y hy => w_step h0 hI.w y ?_) _ _ _
  have h := coord1 t; have h' : (y 0).val = (grid0.coords t 1).val := congrArg Fin.val hy; omega

theorem y_C (h0 : ¬t.val < 4) (h1 : t.val % 4 = 0) :
    yB (grid0.coords t 1) S0 (xqB (iblk m c 0 t)) (scB (iblk m c 0 t)) (iblk m c 2 t)
      = yB (grid0.coords t 1) (WB m c) (xqB (xblk m c (t.val / 4))) (scB (xblk m c (t.val / 4))) (iblk m c 2 t) := by
  rw [iblk0_eq]
  exact yB_WB _ (fun y hy => hI.w y (by have := (y 0).isLt; change (y 0).val < 4 at this; omega)) _ _ _

theorem y_D (h0 : ¬t.val < 4) (h1 : ¬t.val % 4 = 0) :
    yB (grid0.coords t 1) S0 S1 S2 (iblk m c 2 t)
      = yB (grid0.coords t 1) (WB m c) (xqB (xblk m c (t.val / 4))) (scB (xblk m c (t.val / 4))) (iblk m c 2 t) := by
  rw [(hI.x h1).1, (hI.x h1).2]
  exact yB_WB _ (fun y hy => hI.w y (by have := (y 0).isLt; change (y 0).val < 4 at this; omega)) _ _ _

theorem xs_E (h1 : t.val % 4 = 0) (h2 : t.val % 120 = 116) :
    xsB (rowsStep (grid0.coords t 0).val (iblk m c 0 t : Vec F S512x2048 .bf16) S3) = xsB (RS m c) :=
  xsB_RS fun y hy => r_step h1 hI.r y (by have := lt120 t; omega)

end steps

variable (m)

/-! ## What each window's buffer is left at -/

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare
    (yB (grid0.coords t 1) (WB m c) (xqB (xblk m c (t.val / 4))) (scB (xblk m c (t.val / 4))) (iblk m c 2 t)) := by
  unfold Dat.leavesExact; rw [idle3 t, after0_3]
theorem leaves4_live (c : Dev nD) (t : Fin cfg0.N) (h : t.val % 4 = 0) : (dats m 0 c).leavesExact 4 t = owns (c : Thread nD τ) (ms0_4 t) fullShare
    (codesB (xblk m c (t.val / 4))) := by
  unfold Dat.leavesExact; rw [idle4 t, decide_eq_true h, after0_4]; rfl
theorem leaves5_live (c : Dev nD) (t : Fin cfg0.N) (h : t.val = 116) : (dats m 0 c).leavesExact 5 t = owns (c : Thread nD τ) (ms0_5 t) fullShare
    (xsB (RS m c)) := by
  unfold Dat.leavesExact; rw [idle5 t, decide_eq_true h, after0_5]; rfl

theorem leaves4_idle (c : Dev nD) (t : Fin cfg0.N) (h : ¬t.val % 4 = 0) (d) :
    owns (c : Thread nD τ) (ms0_4 t) fullShare ((dats m 0 c).before 4 t d) ⊢ (dats m 0 c).leavesExact 4 t := by
  unfold Dat.leavesExact
  rw [idle4 t, decide_eq_false h]
  by_cases hf : (cfg0.win 4).flush t = true
  · rw [hf, before0_4 m c t h d, after0_4]
    exact .rfl
  · rw [Bool.not_eq_true] at hf
    rw [hf]
    refine (show _ ⊢ iprop(∃ d, owns (c : Thread nD τ) (ms0_4 t) fullShare ((dats m 0 c).before 4 t d)) from ?_)
    iintro H
    iexists d
    iexact H

theorem leaves5_idle (c : Dev nD) (t : Fin cfg0.N) (h : ¬t.val = 116) (d) :
    owns (c : Thread nD τ) (ms0_5 t) fullShare ((dats m 0 c).before 5 t d) ⊢ (dats m 0 c).leavesExact 5 t := by
  unfold Dat.leavesExact
  rw [idle5 t, decide_eq_false h]
  by_cases hf : (cfg0.win 5).flush t = true
  · have h' := (flush0_5 t).mp hf
    rw [hf, before0_5 m c t (by have := lt120 t; omega) d, after0_5]
    exact .rfl
  · rw [Bool.not_eq_true] at hf
    rw [hf]
    refine (show _ ⊢ iprop(∃ d, owns (c : Thread nD τ) (ms0_5 t) fullShare ((dats m 0 c).before 5 t d)) from ?_)
    iintro H
    iexists d
    iexact H

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4000000 in
/-- The body at any point, by the case its conditions take there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Phi m c (t.val + 1) from rfl, show (dats m 0 c).Φ t.castSucc = Phi m c t.val from rfl,
    show (dats m 0 c).owesAt () t.succ = (dats m 0 c).owesAt () t.castSucc from rfl]
  rw [show Phi m c t.val = iprop(∃ S0, ∃ S1, ∃ S2, ∃ S3, ⌜Inv m c t.val S0 S1 S2 S3⌝ ∗ owns (c : Thread nD τ) scM0_0 fullShare S0 ∗ owns (c : Thread nD τ) scM0_1 fullShare S1
    ∗ owns (c : Thread nD τ) scM0_2 fullShare S2 ∗ owns (c : Thread nD τ) scM0_3 fullShare S3 ∗ (∃ r, prngReg c r)) from rfl]
  have hN := lt120 t
  by_cases h0 : t.val < 4
  · have h2 : ¬t.val % 120 = 116 := by omega
    by_cases h1 : t.val % 4 = 0
    · iintro ⟨⟨%S0, %S1, %S2, %S3, %hI, HS0, HS1, HS2, HS3, Hg⟩, Ho, ⟨%d0, H0⟩, ⟨%d1, H1⟩, ⟨%d2, H2⟩, ⟨%d3, H3⟩, ⟨%d4, H4⟩, ⟨%d5, H5⟩⟩
      iapply (run_A c (grid0.coords t) _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) ((dats m 0 c).before 4 t d4) ((dats m 0 c).before 5 t d5) S0 S1 S2 S3 Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · unfold Phi
        iexists _; iexists _; iexists _; iexists _
        isplitr
        · ipureintro; exact inv_A hI h0 h1
        isplitl [HS0]; · iexact HS0
        isplitl [HS1]; · iexact HS1
        isplitl [HS2]; · iexact HS2
        isplitl [HS3]; · iexact HS3
        iexact Hg
      isplitl [Ho]; · iexact Ho
      isplitl [H0]; · rw [leaves0]; iexact H0
      isplitl [H1]; · rw [leaves1]; iexact H1
      isplitl [H2]; · rw [leaves2]; iexact H2
      isplitl [H3]; · rw [leaves3, ← y_A hI h0 h1]; iexact H3
      isplitl [H4]; · rw [leaves4_live m c t h1, ← iblk0_eq]; iexact H4
      iapply (leaves5_idle m c t (by omega) d5); iexact H5
    · iintro ⟨⟨%S0, %S1, %S2, %S3, %hI, HS0, HS1, HS2, HS3, Hg⟩, Ho, ⟨%d0, H0⟩, ⟨%d1, H1⟩, ⟨%d2, H2⟩, ⟨%d3, H3⟩, ⟨%d4, H4⟩, ⟨%d5, H5⟩⟩
      iapply (run_B c (grid0.coords t) _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) ((dats m 0 c).before 4 t d4) ((dats m 0 c).before 5 t d5) S0 S1 S2 S3 Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · unfold Phi
        iexists _; iexists _; iexists _; iexists _
        isplitr
        · ipureintro; exact inv_B hI h0 h1
        isplitl [HS0]; · iexact HS0
        isplitl [HS1]; · iexact HS1
        isplitl [HS2]; · iexact HS2
        isplitl [HS3]; · iexact HS3
        iexact Hg
      isplitl [Ho]; · iexact Ho
      isplitl [H0]; · rw [leaves0]; iexact H0
      isplitl [H1]; · rw [leaves1]; iexact H1
      isplitl [H2]; · rw [leaves2]; iexact H2
      isplitl [H3]; · rw [leaves3, ← y_B hI h0 h1]; iexact H3
      isplitl [H4]; · iapply (leaves4_idle m c t h1 d4); iexact H4
      iapply (leaves5_idle m c t (by omega) d5); iexact H5
  · by_cases h1 : t.val % 4 = 0
    · by_cases h2 : t.val % 120 = 116
      · iintro ⟨⟨%S0, %S1, %S2, %S3, %hI, HS0, HS1, HS2, HS3, Hg⟩, Ho, ⟨%d0, H0⟩, ⟨%d1, H1⟩, ⟨%d2, H2⟩, ⟨%d3, H3⟩, ⟨%d4, H4⟩, ⟨%d5, H5⟩⟩
        iapply (run_E c (grid0.coords t) _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) ((dats m 0 c).before 4 t d4) ((dats m 0 c).before 5 t d5) S0 S1 S2 S3 Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [HS0 HS1 HS2 HS3 Hg]
        · unfold Phi
          iexists _; iexists _; iexists _; iexists _
          isplitr
          · ipureintro; exact inv_C hI h0 h1
          isplitl [HS0]; · iexact HS0
          isplitl [HS1]; · iexact HS1
          isplitl [HS2]; · iexact HS2
          isplitl [HS3]; · iexact HS3
          iexact Hg
        isplitl [Ho]; · iexact Ho
        isplitl [H0]; · rw [leaves0]; iexact H0
        isplitl [H1]; · rw [leaves1]; iexact H1
        isplitl [H2]; · rw [leaves2]; iexact H2
        isplitl [H3]; · rw [leaves3, ← y_C hI h0 h1]; iexact H3
        isplitl [H4]; · rw [leaves4_live m c t h1, ← iblk0_eq]; iexact H4
        rw [leaves5_live m c t (by omega), ← xs_E hI h1 h2]; iexact H5
      · iintro ⟨⟨%S0, %S1, %S2, %S3, %hI, HS0, HS1, HS2, HS3, Hg⟩, Ho, ⟨%d0, H0⟩, ⟨%d1, H1⟩, ⟨%d2, H2⟩, ⟨%d3, H3⟩, ⟨%d4, H4⟩, ⟨%d5, H5⟩⟩
        iapply (run_C c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) ((dats m 0 c).before 4 t d4) ((dats m 0 c).before 5 t d5) S0 S1 S2 S3 Set.univ _)
        isplitl [H0]; · iexact H0
        isplitl [H1]; · iexact H1
        isplitl [H2]; · iexact H2
        isplitl [H3]; · iexists _; iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [HS0 HS1 HS2 HS3 Hg]
        · unfold Phi
          iexists _; iexists _; iexists _; iexists _
          isplitr
          · ipureintro; exact inv_C hI h0 h1
          isplitl [HS0]; · iexact HS0
          isplitl [HS1]; · iexact HS1
          isplitl [HS2]; · iexact HS2
          isplitl [HS3]; · iexact HS3
          iexact Hg
        isplitl [Ho]; · iexact Ho
        isplitl [H0]; · rw [leaves0]; iexact H0
        isplitl [H1]; · rw [leaves1]; iexact H1
        isplitl [H2]; · rw [leaves2]; iexact H2
        isplitl [H3]; · rw [leaves3, ← y_C hI h0 h1]; iexact H3
        isplitl [H4]; · rw [leaves4_live m c t h1, ← iblk0_eq]; iexact H4
        iapply (leaves5_idle m c t (by omega) d5); iexact H5
    · have h2 : ¬t.val % 120 = 116 := by omega
      iintro ⟨⟨%S0, %S1, %S2, %S3, %hI, HS0, HS1, HS2, HS3, Hg⟩, Ho, ⟨%d0, H0⟩, ⟨%d1, H1⟩, ⟨%d2, H2⟩, ⟨%d3, H3⟩, ⟨%d4, H4⟩, ⟨%d5, H5⟩⟩
      iapply (run_D c (grid0.coords t) _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) ((dats m 0 c).before 4 t d4) ((dats m 0 c).before 5 t d5) S0 S1 S2 S3 Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · unfold Phi
        iexists _; iexists _; iexists _; iexists _
        isplitr
        · ipureintro; exact inv_D hI h0 h1
        isplitl [HS0]; · iexact HS0
        isplitl [HS1]; · iexact HS1
        isplitl [HS2]; · iexact HS2
        isplitl [HS3]; · iexact HS3
        iexact Hg
      isplitl [Ho]; · iexact Ho
      isplitl [H0]; · rw [leaves0]; iexact H0
      isplitl [H1]; · rw [leaves1]; iexact H1
      isplitl [H2]; · rw [leaves2]; iexact H2
      isplitl [H3]; · rw [leaves3, ← y_D hI h0 h1]; iexact H3
      isplitl [H4]; · iapply (leaves4_idle m c t h1 d4); iexact H4
      iapply (leaves5_idle m c t (by omega) d5); iexact H5

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch and the frame -/

theorem Phi_in (c : Dev nD) : (Pipeline.ΦA spec0 c : sProp 𝕄) ⊢ Phi m c 0 := by
  rw [PhiA0_eq]; unfold Phi
  iintro ⟨⟨⟨%S0, H0⟩, ⟨%S1, H1⟩, ⟨%S2, H2⟩, ⟨%S3, H3⟩⟩, Hg⟩
  iexists S0; iexists S1; iexists S2; iexists S3
  isplitr
  · ipureintro; exact ⟨fun y hy => absurd hy (Nat.not_lt_zero _), fun h => absurd rfl h, fun y hy => absurd hy (by omega)⟩
  isplitl [H0]; · iexact H0
  isplitl [H1]; · iexact H1
  isplitl [H2]; · iexact H2
  isplitl [H3]; · iexact H3
  iexact Hg

theorem Phi_out (c : Dev nD) (n : ℕ) : Phi m c n ⊢ (Pipeline.ΦA spec0 c : sProp 𝕄) := by
  rw [PhiA0_eq]; unfold Phi
  iintro ⟨%S0, %S1, %S2, %S3, -, H0, H1, H2, H3, Hg⟩
  isplitl [H0 H1 H2 H3]
  · isplitl [H0]; · iexists S0; iexact H0
    isplitl [H1]; · iexists S1; iexact H1
    isplitl [H2]; · iexists S2; iexact H2
    iexists S3; iexact H3
  iexact Hg

set_option backward.isDefEq.respectTransparency.types false in
set_option maxHeartbeats 800000 in
/-- The launch: every final state has every array of the pipeline at the contents the proof data give, every other
    buffer as the host lines after the region leave it, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => Phi_in m c) (hout := fun c => Phi_out m c _)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: arguments unchanged, every semaphore counter at zero. -/
theorem frame_KI : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Same.lean ====
module

public import proofs.«01_k».proof.Proof.Body
public import proofs.«01_k».proof.Proof.Gen.Kernel

/-!
# The kernel, and the idealized kernel, are one program

No operation was rewritten, so the two texts agree, and what is proved of the one holds of the other.
-/

@[expose] public section

set_option maxRecDepth 16384

noncomputable section

namespace Cert.Kernel.Hand

open Idealize.ShloMosaic Idealize.ShloMosaic.TcCoe Idealize.SL.Sem
open Cert.Kernel Cert.Kernel.Gen

variable {F : FTy → Type} [FloatOps F]

/-- The two bodies are the same. -/
theorem body_eq (i : grid0.Coords) :
    @cc0_w8a8_linear F _ Gen.facts i
      = @Cert.KernelIdeal.cc0_w8a8_linear F _ Cert.KernelIdeal.Gen.facts i := rfl

/-- The two tables of bodies are the same. -/
theorem defs₀_eq : defs₀ (F := F) = Cert.KernelIdeal.defs₀ (F := F) := by
  refine congrArg Defs.onTc (funext fun l => funext fun a => ?_)
  match l, a with
  | 0, (t, s) => rfl

/-- The two tables of bodies, with the pipeline's, are the same. -/
theorem defs_eq : defs (F := F) = Cert.KernelIdeal.defs (F := F) :=
  congrArg (Pipeline.defs _) defs₀_eq

/-- The two main functions are the same. -/
theorem main_eq : main (F := F) = Cert.KernelIdeal.main (F := F) := rfl

variable (m : (ℓ : Loc nD τ sig) → Buf (Elt F) ℓ) (ρ : Dev nD → PrngReg)

/-- The frame of the kernel: arguments unchanged, every semaphore counter at zero. -/
theorem frame_K : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.KernelIdeal.Hand.frame_KI m ρ

end Cert.Kernel.Hand
end
-- ==== Proof.Math.lean ====
module

public import Idealize.ShloMosaic.Lib.Pipeline.ValueKit
public import Idealize.ShloMosaic.Lib.Pointwise

/-!
# The arithmetic of the eight bit quantiser

A clipped code is a whole number between -127 and 127, whatever is divided by the scale, so that it
survives the conversion to eight bits; a product sum of eight bit words is a whole number, so that
it may be taken in any order and through 32 bit words.
-/

@[expose] public section

set_option maxRecDepth 16384

noncomputable section

namespace Cert.Value

open Idealize.ShloMosaic Idealize.ShloMosaic.TcCoe Idealize.ShloMosaic.Tactic

/-- The greatest code, 127. -/
theorem hi_eq : (Ideal.ofBits FTy.f32 1123942400#32) = ((127 : ℝ) : EReal) := by
  simp [Ideal.ofBits, Ideal.ieee, -EReal.coe_mul]; norm_num

/-- The least code, -127. -/
theorem lo_eq : (Ideal.ofBits FTy.f32 3271426048#32) = ((-127 : ℝ) : EReal) := by
  simp [Ideal.ofBits, Ideal.ieee, -EReal.coe_mul, -EReal.coe_neg]; norm_num

/-- The greater of two real numbers. -/
theorem coe_max (a b : ℝ) : ((max a b : ℝ) : EReal) = max (a : EReal) (b : EReal) :=
  EReal.coe_strictMono.monotone.map_max

/-- The lesser of two real numbers. -/
theorem coe_min (a b : ℝ) : ((min a b : ℝ) : EReal) = min (a : EReal) (b : EReal) :=
  EReal.coe_strictMono.monotone.map_min

/-- A quotient rounded to the nearest whole number and clipped to the codes. -/
def clipped (q : EReal) : EReal :=
  min (Ideal.ofBits FTy.f32 1123942400#32)
    (max (Ideal.ofBits FTy.f32 3271426048#32) (Ideal.liftRound Ideal.roundHalfEven q))

/-- A clipped quotient is a whole number between -127 and 127. -/
theorem clipped_int (q : EReal) :
    ∃ z : ℤ, -127 ≤ z ∧ z ≤ 127 ∧ clipped q = ((z : ℝ) : EReal) := by
  unfold clipped
  rw [hi_eq, lo_eq]
  induction q with
  | bot =>
    refine ⟨-127, by omega, by omega, ?_⟩
    show min _ (max _ (⊥ : EReal)) = _
    rw [max_eq_left bot_le, ← coe_min]
    norm_num
  | top =>
    refine ⟨127, by omega, by omega, ?_⟩
    show min _ (max _ (⊤ : EReal)) = _
    rw [max_eq_right le_top, min_eq_left le_top]
    norm_num
  | coe r =>
    refine ⟨min 127 (max (-127) (Ideal.roundHalfEven r)), by omega, by omega, ?_⟩
    show min _ (max _ (((Ideal.roundHalfEven r : ℤ) : ℝ) : EReal)) = _
    rw [← coe_max, ← coe_min]
    push_cast
    rfl

/-- Truncating a whole number within the bounds changes nothing. -/
theorem toIntClamped_int (lo hi z : ℤ) (h₁ : lo ≤ z) (h₂ : z ≤ hi) :
    Ideal.toIntClamped lo hi ((z : ℝ) : EReal) = z := by
  show max lo (min hi (if 0 ≤ (z : ℝ) then ⌊(z : ℝ)⌋ else ⌈(z : ℝ)⌉)) = z
  rw [Int.floor_intCast, Int.ceil_intCast, ite_self]
  omega

/-- The scale of one row of 2048 values: a 127th of the greatest magnitude, and one of a row of
zeros. -/
def scaleOf (f : Fin 2048 → EReal) : EReal :=
  if Finset.fold max (Ideal.ofBits FTy.f32 4286578688#32)
      (fun k => FloatOps.absf (F := Ideal) (φ := FTy.f32) (f k)) Finset.univ = 0 then 1
  else Ideal.div
    (Finset.fold max (Ideal.ofBits FTy.f32 4286578688#32)
      (fun k => FloatOps.absf (F := Ideal) (φ := FTy.f32) (f k)) Finset.univ)
    (Ideal.ofBits FTy.f32 1123942400#32)

/-- The code of one value of a row. -/
def codeOf (f : Fin 2048 → EReal) (n : Fin 2048) : BitVec 8 :=
  FloatOps.fptosi (F := Ideal) (φ := FTy.f32) 8 (clipped (Ideal.div (f n) (scaleOf f)))

/-- The product sum of a row's codes and a column of eight bit words. -/
def dotOf (f : Fin 2048 → EReal) (w : Fin 2048 → BitVec 8) : EReal :=
  (((∑ k, (w k).toInt * (codeOf f k).toInt : ℤ) : ℝ) : EReal)

/-- The products of an input `x` with a weight `w`, scaled by the rows' scales and by `s`. -/
def yOf (x : (⟨3, ![8, 1920, 2048]⟩ : Shape).Idx → EReal)
    (w : (⟨2, ![2048, 5632]⟩ : Shape).Idx → BitVec 8) (s : (⟨1, ![5632]⟩ : Shape).Idx → EReal) :
    (⟨3, ![8, 1920, 5632]⟩ : Shape).Idx → EReal := fun y =>
  dotOf (fun k => x (ix3 (y 0) (y 1) k)) (fun k => w (ix2 k (y 2)))
    * scaleOf (fun k => x (ix3 (y 0) (y 1) k)) * s (ix1 (y 2))

/-- The codes of an input. -/
def codesOf (x : (⟨3, ![8, 1920, 2048]⟩ : Shape).Idx → EReal) :
    (⟨3, ![8, 1920, 2048]⟩ : Shape).Idx → BitVec 8 := fun y =>
  codeOf (fun k => x (ix3 (y 0) (y 1) k)) (y 2)

/-- The scales of an input. -/
def scalesOf (x : (⟨3, ![8, 1920, 2048]⟩ : Shape).Idx → EReal) :
    (⟨2, ![8, 1920]⟩ : Shape).Idx → EReal := fun y =>
  scaleOf fun k => x (ix3 (y 0) (y 1) k)

/-- A code read back from its eight bits. -/
theorem toInt_code (q : EReal) :
    (((FloatOps.fptosi (F := Ideal) (φ := FTy.f32) 8 (clipped q)).toInt : ℝ) : EReal)
      = clipped q := by
  obtain ⟨z, h₁, h₂, h⟩ := clipped_int q
  rw [h]
  show (((BitVec.ofInt 8 (Ideal.toIntClamped (-128) 127 ((z : ℝ) : EReal))).toInt : ℝ) : EReal) = _
  rw [toIntClamped_int _ _ _ (by omega) (by omega), BitVec.toInt_ofInt, Int.bmod_eq_of_le (by omega) (by omega)]

/-- A sum of whole numbers is a whole number. -/
theorem coe_sum_int {n : Nat} (f : Fin n → ℤ) :
    (∑ k, ((f k : ℝ) : EReal)) = (((∑ k, f k : ℤ) : ℝ) : EReal) := by
  rw [Int.cast_sum]
  exact (map_sum (⟨⟨Real.toEReal, EReal.coe_zero⟩, EReal.coe_add⟩ : ℝ →+ EReal) _ _).symm

/-- A product sum of eight bit words is the whole number it is. -/
theorem dot_int {n : Nat} (w c : Fin n → BitVec 8) :
    (∑ k, (((w k).toInt : ℝ) : EReal) * (((c k).toInt : ℝ) : EReal))
      = (((∑ k, (w k).toInt * (c k).toInt : ℤ) : ℝ) : EReal) := by
  rw [← coe_sum_int]
  exact Finset.sum_congr rfl fun k _ => by rw [Int.cast_mul, EReal.coe_mul]

/-- Each product of two eight bit words lies within 2 ^ 14. -/
theorem mul_bounds (a b : BitVec 8) :
    -16384 ≤ a.toInt * b.toInt ∧ a.toInt * b.toInt ≤ 16384 := by
  have h₁ := BitVec.le_toInt a
  have h₂ := BitVec.toInt_lt (x := a)
  have h₃ := BitVec.le_toInt b
  have h₄ := BitVec.toInt_lt (x := b)
  norm_num at h₁ h₂ h₃ h₄
  constructor <;> nlinarith

/-- A product sum of `n` pairs lies within `n * 2 ^ 14`. -/
theorem sum_bounds {n : Nat} (w c : Fin n → BitVec 8) :
    -(n * 16384 : ℤ) ≤ ∑ k, (w k).toInt * (c k).toInt ∧
      ∑ k, (w k).toInt * (c k).toInt ≤ (n * 16384 : ℤ) := by
  constructor
  · have := Finset.card_nsmul_le_sum Finset.univ (fun k => (w k).toInt * (c k).toInt) (-16384)
      fun k _ => (mul_bounds (w k) (c k)).1
    simp only [Finset.card_univ, Fintype.card_fin, nsmul_eq_mul] at this
    linarith
  · have := Finset.sum_le_card_nsmul Finset.univ (fun k => (w k).toInt * (c k).toInt) 16384
      fun k _ => (mul_bounds (w k) (c k)).2
    simp only [Finset.card_univ, Fintype.card_fin, nsmul_eq_mul] at this
    linarith

/-- The sum over four stretches of 512 is the sum over 2048. -/
theorem sum_four (f : Fin 2048 → ℤ) :
    (∑ q : Fin 4, ∑ k : Fin 512, f ⟨q.val * 512 + k.val, by omega⟩) = ∑ k, f k :=
  (Fin.sum_univ_tiles 4 512 (by decide) f).symm

/-- The sum over two halves of 1024 is the sum over 2048. -/
theorem sum_two (f : Fin 2048 → ℤ) :
    (∑ k : Fin 1024, f ⟨k.val, by omega⟩) + (∑ k : Fin 1024, f ⟨1024 + k.val, by omega⟩)
      = ∑ k, f k :=
  (Fin.sum_univ_two_halves 1024 1024 (by decide) f).symm

/-- Adding up 32 bit words of four whole numbers gives the word of their sum. -/
theorem fold_words (f : Fin 4 → ℤ) :
    Finset.fold IntOp.addi (0#32) (fun q => BitVec.ofInt 32 (f q)) Finset.univ
      = BitVec.ofInt 32 (∑ q, f q) := by
  have h : ∀ s : Finset (Fin 4),
      Finset.fold IntOp.addi (0#32) (fun q => BitVec.ofInt 32 (f q)) s
        = BitVec.ofInt 32 (∑ q ∈ s, f q) := by
    intro s
    induction s using Finset.induction_on with
    | empty => rfl
    | insert a s ha ih =>
      rw [Finset.fold_insert ha, ih, Finset.sum_insert ha, BitVec.ofInt_add]
      rfl
  exact h _

/-- The product sum over 2048 pairs taken in four stretches, each turned into a 32 bit word, and
the words added up. -/
theorem words_dot (w c : Fin 2048 → BitVec 8) :
    (((Finset.fold IntOp.addi (0#32) (fun q : Fin 4 =>
        FloatOps.fptosi (F := Ideal) (φ := FTy.f32) 32
          (∑ k : Fin 512, (((w ⟨q.val * 512 + k.val, by omega⟩).toInt : ℝ) : EReal)
            * (((c ⟨q.val * 512 + k.val, by omega⟩).toInt : ℝ) : EReal)))
        Finset.univ).toInt : ℝ) : EReal)
      = (((∑ k, (w k).toInt * (c k).toInt : ℤ) : ℝ) : EReal) := by
  have h : ∀ q : Fin 4, FloatOps.fptosi (F := Ideal) (φ := FTy.f32) 32
      (∑ k : Fin 512, (((w ⟨q.val * 512 + k.val, by omega⟩).toInt : ℝ) : EReal)
            * (((c ⟨q.val * 512 + k.val, by omega⟩).toInt : ℝ) : EReal))
      = BitVec.ofInt 32 (∑ k : Fin 512, (w ⟨q.val * 512 + k.val, by omega⟩).toInt
            * (c ⟨q.val * 512 + k.val, by omega⟩).toInt) := by
    intro q
    have hb := sum_bounds (n := 512) (fun k => w ⟨q.val * 512 + k.val, by omega⟩)
      (fun k => c ⟨q.val * 512 + k.val, by omega⟩)
    rw [dot_int]
    show BitVec.ofInt 32 (Ideal.toIntClamped (-2147483648) 2147483647 _) = _
    rw [toIntClamped_int _ _ _ (by omega) (by omega)]
  simp only [h]
  have hb := sum_bounds w c
  rw [fold_words, sum_four (fun k => (w k).toInt * (c k).toInt), BitVec.toInt_ofInt, Int.bmod_eq_of_le (by omega) (by omega)]

/-- The product sum over 2048 pairs taken in two halves. -/
theorem halves_dot (w c : Fin 2048 → BitVec 8) :
    (∑ k : Fin 1024, (((c ⟨k.val, by omega⟩).toInt : ℝ) : EReal)
          * (((w ⟨k.val, by omega⟩).toInt : ℝ) : EReal))
      + (∑ k : Fin 1024, (((c ⟨1024 + k.val, by omega⟩).toInt : ℝ) : EReal)
          * (((w ⟨1024 + k.val, by omega⟩).toInt : ℝ) : EReal))
      = (((∑ k, (w k).toInt * (c k).toInt : ℤ) : ℝ) : EReal) := by
  rw [dot_int, dot_int, ← EReal.coe_add, ← Int.cast_add,
    sum_two (fun k => (c k).toInt * (w k).toInt)]
  simp only [mul_comm]

/-- A sum against one column of the identity is the entry of that column. -/
theorem sum_pick {n : Nat} (hn : n < 2 ^ 32) (f : Fin n → EReal) (l : Fin n) :
    (∑ i, Scalar.select (IntOp.cmpi .eq (BitVec.ofNat 32 i.val) (BitVec.ofNat 32 l.val)) (f i)
      (0 : EReal)) = f l := by
  have h : ∀ i : Fin n, Scalar.select
      (IntOp.cmpi .eq (BitVec.ofNat 32 i.val) (BitVec.ofNat 32 l.val)) (f i) (0 : EReal)
        = if i = l then f i else 0 := by
    intro i
    unfold IntOp.cmpi
    rw [Scalar.select_ofBool]
    refine if_congr ?_ rfl rfl
    rw [beq_iff_eq, Fin.ext_iff]
    constructor
    · intro e
      have := congrArg BitVec.toNat e
      rw [BitVec.toNat_ofNat, BitVec.toNat_ofNat, Nat.mod_eq_of_lt (i.isLt.trans hn),
        Nat.mod_eq_of_lt (l.isLt.trans hn)] at this
      exact this
    · intro e
      rw [e]
  simp only [h, Finset.sum_ite_eq', Finset.mem_univ, if_true]

end Cert.Value

end
-- ==== Proof.KPay.lean ====
module

public import proofs.«01_k».proof.Proof.Math
public import proofs.«01_k».proof.Proof.Data

/-!
# The values the kernel stores, entry by entry
-/

@[expose] public section

set_option maxRecDepth 16384

noncomputable section

namespace Cert.Value

open Idealize.ShloMosaic Idealize.ShloMosaic.TcCoe Idealize.ShloMosaic.Tactic

namespace K
open Cert.KernelIdeal Cert.KernelIdeal.Gen Cert.KernelIdeal.Hand

/-! ## A group of 128 rows -/

/-- Row `r` of a band of 128 rows gets the scale of that row. -/
theorem scale_apply (x : Vec Ideal S128x2048 .bf16) (r : Fin 128) (l : Fin 1) :
    k0_pay2 (F := Ideal) x (ix2 r l) = scaleOf fun k => x (ix2 r k) := by
  pointwise [k0_pay2, k0_pay1]
  rfl

/-- An entry of the band of codes is the rounded and clipped quotient, as an 8-bit word. -/
theorem code_apply (x : Vec Ideal S128x2048 .bf16) (r : Fin 128) (n : Fin 2048) :
    k0_pay4 (F := Ideal) x (ix2 r n) = codeOf (fun k => x (ix2 r k)) n := by
  pointwise [k0_pay4, k0_pay3, k0_pay1]
  rw [scale_apply]
  rfl

/-- The float copy of a code has the value of the clipped quotient. -/
theorem xq_apply (x : Vec Ideal S128x2048 .bf16) (r : Fin 128) (n : Fin 2048) :
    k0_pay5 (F := Ideal) x (ix2 r n)
      = (((codeOf (fun k => x (ix2 r k)) n).toInt : ℝ) : EReal) := by
  pointwise [k0_pay5, k0_pay3, k0_pay1]
  rw [scale_apply]
  exact (toInt_code _).symm

/-- Each of the 128 lanes of row `r` holds the scale of that row. -/
theorem rep_apply (x : Vec Ideal S128x2048 .bf16) (r : Fin 128) (l : Fin 128) :
    k0_pay7 (F := Ideal) x (ix2 r l) = scaleOf fun k => x (ix2 r k) := by
  pointwise [k0_pay7, k0_pay6]
  rw [scale_apply]

/-- The square of repeated scales again, as the step that lays them along one row reads it. -/
theorem pair_apply (x : Vec Ideal S128x2048 .bf16) (r : Fin 128) (l : Fin 128) :
    k0_pay6 (F := Ideal) x (ix2 r l) = scaleOf fun k => x (ix2 r k) := by
  pointwise [k0_pay6]
  rw [scale_apply]

/-- Summing the diagonal of the square lays the 128 scales of a band along one row. -/
theorem row_apply (x : Vec Ideal S128x2048 .bf16) (l : Fin 128) :
    rowG (F := Ideal) x (ix2 0 l) = scaleOf fun k => x (ix2 l k) := by
  unfold rowG
  pointwise [k0_pay9, k0_pay8]
  simp only [pair_apply]
  exact sum_pick (n := 128) (by norm_num) (fun i => scaleOf fun k => x (ix2 i k)) l

/-! ## A block of 512 rows -/

/-- A row of a block of 512 rows, found in its band of 128. -/
theorem rows128_apply (x : Vec Ideal S512x2048 .bf16) (r : Fin 512) (k : Fin 2048) :
    rows128 x ⟨r.val / 128, by omega⟩ (ix2 ⟨r.val % 128, Nat.mod_lt _ (by decide)⟩ k)
      = x (ix2 r k) := by
  show x (ix2 ⟨128 * (r.val / 128) + r.val % 128, _⟩ ⟨k.val, _⟩) = _
  refine congrArg (fun i => x (ix2 i k)) (Fin.ext ?_)
  show 128 * (r.val / 128) + r.val % 128 = r.val
  omega

/-- An entry of a block computed group by group. -/
theorem tiled_apply {e : EltTy} {n : ℕ}
    (P : Vec Ideal S128x2048 .bf16 → (⟨2, ![128, n]⟩ : Shape).Idx → Elt Ideal e)
    (x : Vec Ideal S512x2048 .bf16) (r : Fin 512) (l : Fin n) :
    tiled P x (ix2 r l)
      = P (rows128 x ⟨r.val / 128, by omega⟩) (ix2 ⟨r.val % 128, Nat.mod_lt _ (by decide)⟩ l) := rfl

/-- The block of codes, entry by entry. -/
theorem codesB_apply (x : Vec Ideal S512x2048 .bf16) (r : Fin 512) (n : Fin 2048) :
    codesB x (ix2 r n) = codeOf (fun k => x (ix2 r k)) n := by
  unfold codesB
  rw [tiled_apply, code_apply]
  simp only [rows128_apply]

/-- The block of float copies of the codes, entry by entry. -/
theorem xqB_apply (x : Vec Ideal S512x2048 .bf16) (r : Fin 512) (n : Fin 2048) :
    xqB x (ix2 r n) = (((codeOf (fun k => x (ix2 r k)) n).toInt : ℝ) : EReal) := by
  unfold xqB
  rw [tiled_apply, xq_apply]
  simp only [rows128_apply]

/-- The block of repeated scales, entry by entry. -/
theorem scB_apply (x : Vec Ideal S512x2048 .bf16) (r : Fin 512) (l : Fin 128) :
    scB x (ix2 r l) = scaleOf fun k => x (ix2 r k) := by
  unfold scB
  rw [tiled_apply, rep_apply]
  simp only [rows128_apply]

/-! ## The product -/

/-- The float copy of a weight code has the value of that code. -/
theorem weight_apply (w : Vec Ideal S2048x1408 .i8) (k : Fin 2048) (l : Fin 1408) :
    k0_pay35 (F := Ideal) w (ix3 0 k l) = (((w (ix2 k l)).toInt : ℝ) : EReal) := by
  pointwise [k0_pay35]
  rfl

/-- An entry of the output block: the two half products, added, times both scales. -/
theorem out_apply (a : Vec Ideal S512x1024 .bf16) (b : Vec Ideal S1x1024x1408 .bf16)
    (c : Vec Ideal S512x1024 .bf16) (d : Vec Ideal S1x1024x1408 .bf16)
    (e : Vec Ideal S512x128 .f32) (f : Vec Ideal S1x1408 .f32) (r : Fin 512) (l : Fin 1408)
    (s : EReal) (he : ∀ k : Fin 128, e (ix2 r k) = s) :
    k0_pay36 (F := Ideal) a b c d e f (ix2 r l)
      = ((∑ k : Fin 1024, (a (ix2 r k) : EReal) * b (ix3 0 k l))
          + (∑ k : Fin 1024, (c (ix2 r k) : EReal) * d (ix3 0 k l))) * s * f (ix2 0 l) := by
  pointwise [k0_pay36]
  simp only [he, dite_eq_ite, ite_self]

/-- The output block's entry: the product sum of the row's codes and the column's weights, times
the row's scale and the column's. -/
theorem yB_apply (j : Fin 4) (wb : Vec Ideal S4x2048x1408 .bf16) (w : Vec Ideal S2048x1408 .i8)
    (hw : ∀ k l, wb (ix3 j k l) = (((w (ix2 k l)).toInt : ℝ) : EReal))
    (x : Vec Ideal S512x2048 .bf16) (s : Vec Ideal S1x1408 .f32) (r : Fin 512) (l : Fin 1408) :
    yB j wb (xqB x) (scB x) s (ix2 r l)
      = dotOf (fun k => x (ix2 r k)) (fun k => w (ix2 k l)) * scaleOf (fun k => x (ix2 r k))
          * s (ix2 0 l) := by
  unfold yB
  refine (out_apply _ _ _ _ _ _ r l _ (scB_apply x r)).trans ?_
  refine congrArg (fun z : EReal => z * scaleOf (fun k => x (ix2 r k)) * s (ix2 0 l)) ?_
  refine Eq.trans ?_ (halves_dot (fun k => w (ix2 k l)) fun k => codeOf (fun k => x (ix2 r k)) k)
  refine congrArg₂ (· + ·) (Finset.sum_congr rfl fun k _ => ?_)
    (Finset.sum_congr rfl fun k _ => ?_)
  · exact congrArg₂ (· * ·) (xqB_apply x r ⟨k.val, by omega⟩) (hw ⟨k.val, by omega⟩ l)
  · exact congrArg₂ (· * ·) (xqB_apply x r ⟨1024 + k.val, by omega⟩)
      (hw ⟨1024 + k.val, by omega⟩ l)

end K
end Cert.Value
end
-- ==== Proof.KValue.lean ====
module

public import proofs.«01_k».proof.Proof.KPay
public import proofs.«01_k».proof.Proof.Body

/-!
# The arrays the kernel leaves

Each result array of the pipeline as one function of the arrays its blocks are cut from.
-/

@[expose] public section

set_option maxRecDepth 16384

noncomputable section

namespace Cert.Value

open Idealize.ShloMosaic Idealize.ShloMosaic.TcCoe Idealize.ShloMosaic.Tactic

namespace K
open Cert.KernelIdeal Cert.KernelIdeal.Gen Cert.KernelIdeal.Hand

variable (m : (ℓ : Loc nD τ sig) → Buf (Elt Ideal) ℓ) (c : Dev nD)

/-- The input's rows as the pipeline cuts them. -/
abbrev X : Vec Ideal S15360x2048 .bf16 := V m c main_v0
/-- The weight. -/
abbrev W : Vec Ideal S2048x5632 .i8 := V m c main_arg1
/-- The weight's scales as one row. -/
abbrev S : Vec Ideal S1x5632 .f32 := V m c main_v1

/-! ## The blocks -/

/-- Step `t` reads the 512 rows of the activations that start at `512 * (t / 4)`. -/
theorem xblk_apply (t : Fin cfg0.N) (r : Fin 512) (l : Fin 2048) :
    xblk m c (t.val / 4) (ix2 r l)
      = X m c (ix2 ⟨512 * (t.val / 4) + r.val, by have := lt120 t; omega⟩ l) := by
  rw [← iblk0_eq]
  exact iblk0_apply m c t r l

/-- Column block `j` of the weight codes. -/
theorem wblk_apply (j : Fin 4) (k : Fin 2048) (l : Fin 1408) :
    wblk m c j (ix2 k l) = W m c (ix2 k ⟨1408 * j.val + l.val, by omega⟩) := by
  unfold wblk
  have h := index1 ⟨j.val, by rw [show cfg0.N = 120 from N_0]; omega⟩
  rw [if_pos (show j.val < 4 from j.isLt)] at h
  blk_ext [iblk, h.1, h.2]

/-- Step `t` reads the weight scales of column block `t % 4`. -/
theorem sblk_apply (t : Fin cfg0.N) (l : Fin 1408) :
    (iblk m c 2 t : Vec Ideal S1x1408 .f32) (ix2 0 l)
      = S m c (ix2 0 ⟨1408 * (t.val % 4) + l.val, by omega⟩) := by
  have h := index2 t
  blk_ext [iblk, h.1, h.2]

/-- The kept weight table holds the values of the weight codes. -/
theorem WB_apply (j : Fin 4) (k : Fin 2048) (l : Fin 1408) :
    WB m c (ix3 j k l) = (((wblk m c j (ix2 k l)).toInt : ℝ) : EReal) :=
  weight_apply (wblk m c j) k l

/-! ## The arrays -/

/-- The products. -/
def yA : Vec Ideal S15360x5632 .bf16 := fun y =>
  dotOf (fun k => X m c (ix2 (y 0) k)) (fun k => W m c (ix2 k (y 1)))
    * scaleOf (fun k => X m c (ix2 (y 0) k)) * S m c (ix2 0 (y 1))

/-- The codes. -/
def codesA : Vec Ideal S15360x2048 .i8 := fun y => codeOf (fun k => X m c (ix2 (y 0) k)) (y 1)

/-- The scales. -/
def xsA : Vec Ideal S8x1920 .f32 := fun y => scaleOf fun k =>
  X m c (ix2 ⟨1920 * (y 0).val + (y 1).val, by
    have := (y 0).isLt; have := (y 1).isLt; change (y 0).val < 8 at *
    change (y 1).val < 1920 at *; omega⟩ k)

/-- What step `t` stores in its output block is the matching block of the product. -/
theorem y_block (t : Fin cfg0.N) (r : Fin 512) (l : Fin 1408) :
    yB (grid0.coords t 1) (WB m c) (xqB (xblk m c (t.val / 4))) (scB (xblk m c (t.val / 4)))
        (iblk m c 2 t : Vec Ideal S1x1408 .f32) (ix2 r l)
      = yA m c (ix2 ⟨512 * (t.val / 4) + r.val, by have := lt120 t; omega⟩
          ⟨1408 * (t.val % 4) + l.val, by omega⟩) := by
  have h1 := coord1 t
  have hx : (fun k => xblk m c (t.val / 4) (ix2 r k))
      = fun k => X m c (ix2 ⟨512 * (t.val / 4) + r.val, by have := lt120 t; omega⟩ k) :=
    funext fun k => xblk_apply m c t r k
  have hw : (fun k => wblk m c (grid0.coords t 1) (ix2 k l))
      = fun k => W m c (ix2 k ⟨1408 * (t.val % 4) + l.val, by omega⟩) := by
    funext k
    refine (wblk_apply m c (grid0.coords t 1) k l).trans ?_
    refine congrArg (fun i => W m c (ix2 k i)) (Fin.ext ?_)
    show 1408 * (grid0.coords t 1).val + l.val = 1408 * (t.val % 4) + l.val
    rw [h1]
  refine (yB_apply (grid0.coords t 1) (WB m c) (wblk m c (grid0.coords t 1)) (WB_apply m c _)
    (xblk m c (t.val / 4)) (iblk m c 2 t : Vec Ideal S1x1408 .f32) r l).trans ?_
  rw [hx, hw, sblk_apply]
  rfl

/-- After the last step the output array is the scaled product. -/
theorem final_y : (dats m 0 c).arrAt 3 cfg0.N = yA m c := by
  refine (dats m 0 c).arrAt_eq_of_covers 3 _ (by decide +kernel) fun t hf y => ?_
  rw [after0_3]
  have h := index3 t
  obtain ⟨r, l, rfl⟩ : ∃ (r : Fin 512) (l : Fin 1408), y = ix2 r l :=
    ⟨y 0, y 1, by funext a; fin_cases a <;> rfl⟩
  have hr : ((cfg0.win 3).blk t).view.emb (ix2 r l)
      = ix2 ⟨512 * (t.val / 4) + r.val, by have := lt120 t; omega⟩
          ⟨1408 * (t.val % 4) + l.val, by omega⟩ := by
    blk_ext [h.1, h.2]
  rw [hr]
  exact y_block m c t r l

/-- After the last step the array of codes is complete. -/
theorem final_codes : (dats m 0 c).arrAt 4 cfg0.N = codesA m c := by
  refine (dats m 0 c).arrAt_eq_of_covers 4 _ (by decide +kernel) fun t hf y => ?_
  rw [after0_4]
  have h := index4 t
  obtain ⟨r, l, rfl⟩ : ∃ (r : Fin 512) (l : Fin 2048), y = ix2 r l :=
    ⟨y 0, y 1, by funext a; fin_cases a <;> rfl⟩
  have hr : ((cfg0.win 4).blk t).view.emb (ix2 r l)
      = ix2 ⟨512 * (t.val / 4) + r.val, by have := lt120 t; omega⟩ l := by
    blk_ext [h.1, h.2]
  rw [hr]
  refine (codesB_apply (xblk m c (t.val / 4)) r l).trans ?_
  simp only [xblk_apply]
  rfl

/-- The table of scales, copied out row by row, gives every token its scale. -/
theorem xsB_RS_apply (b : Fin 8) (s : Fin 1920) :
    xsB (RS m c) (ix2 b s) = scaleOf fun k => X m c (ix2 ⟨1920 * b.val + s.val, by omega⟩ k) := by
  have hb := b.isLt
  have hs := s.isLt
  obtain ⟨q, hq⟩ : ∃ q, q = 15 * b.val + s.val / 128 := ⟨_, rfl⟩
  have hN : cfg0.N = 120 := N_0
  have ht : 4 * (q / 4) < cfg0.N := by omega
  have e : 4 * (q / 4) / 4 = q / 4 := by omega
  have h : xsB (RS m c) (ix2 b s)
      = rowG (rows128 (xblk m c (q / 4)) ⟨q % 4, Nat.mod_lt _ (by decide)⟩)
          (ix2 0 ⟨s.val % 128, Nat.mod_lt _ (by decide)⟩) := by
    subst hq
    rfl
  rw [h, row_apply]
  refine congrArg scaleOf (funext fun k => ?_)
  have hx := xblk_apply m c ⟨4 * (q / 4), ht⟩ ⟨128 * (q % 4) + s.val % 128, by omega⟩ k
  refine (congrArg (fun i => xblk m c i (ix2 ⟨128 * (q % 4) + s.val % 128, by omega⟩ k))
    e.symm).trans ?_
  refine hx.trans (congrArg (fun i => X m c (ix2 i k)) (Fin.ext ?_))
  show 512 * (4 * (q / 4) / 4) + (128 * (q % 4) + s.val % 128) = 1920 * b.val + s.val
  omega

/-- After the last step the array of scales is complete. -/
theorem final_xs : (dats m 0 c).arrAt 5 cfg0.N = xsA m c := by
  refine (dats m 0 c).arrAt_eq_of_covers 5 _ (by decide +kernel) fun t hf y => ?_
  rw [after0_5]
  have h := index5 t
  obtain ⟨r, l, rfl⟩ : ∃ (r : Fin 8) (l : Fin 1920), y = ix2 r l :=
    ⟨y 0, y 1, by funext a; fin_cases a <;> rfl⟩
  have hr : ((cfg0.win 5).blk t).view.emb (ix2 r l) = ix2 r l := by
    blk_ext [h.1, h.2]
  rw [hr]
  exact xsB_RS_apply m c r l

end K
end Cert.Value
end
-- ==== Proof.KRun.lean ====
module

public import proofs.«01_k».proof.Proof.KValue

/-!
# The results of the kernel's program

The program folds the input's two leading axes into one, runs the pipeline, and unfolds the rows of
the products and of the codes.
-/

@[expose] public section

set_option maxRecDepth 16384

noncomputable section

namespace Cert.Value

open Idealize.ShloMosaic Idealize.ShloMosaic.TcCoe Idealize.ShloMosaic.Tactic

namespace K
open Cert.KernelIdeal Cert.KernelIdeal.Gen Cert.KernelIdeal.Hand

variable (m : (ℓ : Loc nD τ sig) → Buf (Elt Ideal) ℓ) (c : Dev nD) (ρ : Dev nD → PrngReg)

/-- The input as launched. -/
abbrev X0 : Vec Ideal S8x1920x2048 .bf16 := m ((c : Thread nD τ).loc main_arg0)
/-- The weight as launched. -/
abbrev W0 : Vec Ideal S2048x5632 .i8 := m ((c : Thread nD τ).loc main_arg1)
/-- The weight's scales as launched. -/
abbrev S0 : Vec Ideal S5632 .f32 := m ((c : Thread nD τ).loc main_arg2)

/-! ## What the pipeline finds -/

/-- The kernel sees the activations with batch and sequence folded into rows. -/
theorem X_eq : X m c = shapeCast S15360x2048 (X0 m c) shapeCasts_S8x1920x2048_S15360x2048 := by
  show V m c main_v0 = _
  unfold V V0
  simp only [List.flatten_cons, List.flatten_nil, List.append_nil, hostOps0]
  after_results
  try rfl

/-- The kernel sees the weight scales as one row. -/
theorem S_eq : S m c = shapeCast S1x5632 (S0 m c) shapeCasts_S5632_S1x5632 := by
  show V m c main_v1 = _
  unfold V V0
  simp only [List.flatten_cons, List.flatten_nil, List.append_nil, hostOps0]
  after_results
  try rfl

/-- Row `R` of the folded array is token `R % 1920` of batch `R / 1920`. -/
theorem fold_apply (x : Vec Ideal S8x1920x2048 .bf16) (h) (R : Fin 15360) (k : Fin 2048) :
    shapeCast S15360x2048 x h (ix2 R k)
      = x (ix3 ⟨R.val / 1920, by omega⟩ ⟨R.val % 1920, Nat.mod_lt _ (by decide)⟩ k) := by
  pointwise

/-- A vector laid out as one row. -/
theorem line_apply (x : Vec Ideal S5632 .f32) (h) (n : Fin 5632) :
    shapeCast S1x5632 x h (ix2 0 n) = x (ix1 n) := by
  pointwise

/-- The folded activations, read at a batch and a token. -/
theorem X_apply (b : Fin 8) (s : Fin 1920) (k : Fin 2048) :
    X m c (ix2 ⟨1920 * b.val + s.val, by omega⟩ k) = X0 m c (ix3 b s k) := by
  rw [X_eq, fold_apply]
  have h₁ : (1920 * b.val + s.val) / 1920 = b.val := by omega
  have h₂ : (1920 * b.val + s.val) % 1920 = s.val := by omega
  exact congrArg₂ (fun i j => X0 m c (ix3 i j k)) (Fin.ext h₁) (Fin.ext h₂)

/-- The row of weight scales, read at a column. -/
theorem S_apply (n : Fin 5632) : S m c (ix2 0 n) = S0 m c (ix1 n) := by
  rw [S_eq, line_apply]

/-! ## What the program leaves -/

/-- Unfolding the rows of the product into batch and token. -/
theorem unfold_y (x : Vec Ideal S15360x5632 .bf16) (h) (b : Fin 8) (s : Fin 1920) (k : Fin 5632) :
    shapeCast S8x1920x5632 x h (ix3 b s k) = x (ix2 ⟨1920 * b.val + s.val, by omega⟩ k) := by
  pointwise
  exact congrArg (fun i => x (ix2 i k)) (Fin.ext (by
    show b.val * 1920 + s.val = 1920 * b.val + s.val
    omega))

/-- Unfolding the rows of the codes into batch and token. -/
theorem unfold_codes (x : Vec Ideal S15360x2048 .i8) (h) (b : Fin 8) (s : Fin 1920)
    (k : Fin 2048) :
    shapeCast S8x1920x2048 x h (ix3 b s k) = x (ix2 ⟨1920 * b.val + s.val, by omega⟩ k) := by
  pointwise
  exact congrArg (fun i => x (ix2 i k)) (Fin.ext (by
    show b.val * 1920 + s.val = 1920 * b.val + s.val
    omega))

/-- The windows belong to different arrays. -/
theorem arr_inj : Function.Injective (Pipeline.arrRef spec0) := launch0.win.arr_inj

/-- After the final reshape the first result is the specified product. -/
theorem tail_y : Pipeline.afterTail₀ cfgs (dats m) 0 (V0 m) [hostOps1] c main_v3
    = shapeCast S8x1920x5632 (yA m c) shapeCasts_S15360x5632_S8x1920x5632 := by
  have e : Pipeline.withArrays (cfgs 0).spec c (V0 m c) (fun w => (dats m 0 c).arrAt w (cfgs 0).N)
      (Proc.tc.devRef main_v2_0) = yA m c :=
    (Pipeline.withArrays_arr spec0 arr_inj c (V0 m c) (fun w => (dats m 0 c).arrAt w cfg0.N)
      3).trans (final_y m c)
  unfold Pipeline.afterTail₀
  simp only [List.flatten_cons, List.flatten_nil, List.append_nil, hostOps1]
  after_results
  rw [e]
  rfl

/-- After the final reshape the second result is the specified codes. -/
theorem tail_codes : Pipeline.afterTail₀ cfgs (dats m) 0 (V0 m) [hostOps1] c main_v4
    = shapeCast S8x1920x2048 (codesA m c) shapeCasts_S15360x2048_S8x1920x2048 := by
  have e : Pipeline.withArrays (cfgs 0).spec c (V0 m c) (fun w => (dats m 0 c).arrAt w (cfgs 0).N)
      (Proc.tc.devRef main_v2_1) = codesA m c :=
    (Pipeline.withArrays_arr spec0 arr_inj c (V0 m c) (fun w => (dats m 0 c).arrAt w cfg0.N)
      4).trans (final_codes m c)
  unfold Pipeline.afterTail₀
  simp only [List.flatten_cons, List.flatten_nil, List.append_nil, hostOps1]
  after_results
  rw [e]
  rfl

/-- The products, in the launched arrays. -/
theorem y_eq : shapeCast S8x1920x5632 (yA m c) shapeCasts_S15360x5632_S8x1920x5632
    = yOf (X0 m c) (W0 m c) (S0 m c) := by
  funext y
  obtain ⟨b, s, n, rfl⟩ : ∃ (b : Fin 8) (s : Fin 1920) (n : Fin 5632), y = ix3 b s n :=
    ⟨y 0, y 1, y 2, by funext a; fin_cases a <;> rfl⟩
  rw [unfold_y]
  have hx : (fun k => X m c (ix2 ⟨1920 * b.val + s.val, by omega⟩ k))
      = fun k => X0 m c (ix3 b s k) := funext fun k => X_apply m c b s k
  show dotOf (fun k => X m c (ix2 ⟨1920 * b.val + s.val, _⟩ k)) (fun k => W m c (ix2 k n))
    * scaleOf (fun k => X m c (ix2 ⟨1920 * b.val + s.val, _⟩ k)) * S m c (ix2 0 n) = _
  rw [hx, S_apply, show W m c = W0 m c from V_main_arg1 m c]
  rfl

/-- The codes, in the launched arrays. -/
theorem codes_eq : shapeCast S8x1920x2048 (codesA m c) shapeCasts_S15360x2048_S8x1920x2048
    = codesOf (X0 m c) := by
  funext y
  obtain ⟨b, s, n, rfl⟩ : ∃ (b : Fin 8) (s : Fin 1920) (n : Fin 2048), y = ix3 b s n :=
    ⟨y 0, y 1, y 2, by funext a; fin_cases a <;> rfl⟩
  rw [unfold_codes]
  have hx : (fun k => X m c (ix2 ⟨1920 * b.val + s.val, by omega⟩ k))
      = fun k => X0 m c (ix3 b s k) := funext fun k => X_apply m c b s k
  show codeOf (fun k => X m c (ix2 ⟨1920 * b.val + s.val, _⟩ k)) n = _
  rw [hx]
  rfl

/-- The scales, in the launched arrays. -/
theorem xs_eq : xsA m c = scalesOf (X0 m c) := by
  funext y
  obtain ⟨b, s, rfl⟩ : ∃ (b : Fin 8) (s : Fin 1920), y = ix2 b s :=
    ⟨y 0, y 1, by funext a; fin_cases a <;> rfl⟩
  exact congrArg scaleOf (funext fun k => X_apply m c b s k)

/-- The run: the three results, and the arguments unchanged. -/
theorem run : θ_run defs (onTc (τ := τ) (main (F := Ideal))) ⟨m, fun _ => 0, ρ⟩ fun r =>
    ∀ c : Dev nD,
      r.2.mem ((c.tc : Thread nD τ).loc main_v3) = yOf (X0 m c) (W0 m c) (S0 m c)
      ∧ r.2.mem ((c.tc : Thread nD τ).loc main_v4) = codesOf (X0 m c)
      ∧ r.2.mem ((c.tc : Thread nD τ).loc main_v2_2) = scalesOf (X0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h.1 c).2 main_v3 (Pipeline.mem_restRefs_of main_v3 (by decide) (by decide))).trans
          ((tail_y m c).trans (y_eq m c)),
        ((h.1 c).2 main_v4 (Pipeline.mem_restRefs_of main_v4 (by decide) (by decide))).trans
          ((tail_codes m c).trans (codes_eq m c)),
        ((h.1 c).1 5).trans ((final_xs m c).trans (xs_eq m c)), h.2 c⟩)
    (θ_run_and (run_main m ρ) (unchanged m ρ))

end K
end Cert.Value
end
-- ==== Proof.RPay.lean ====
module

public import proofs.«01_k».proof.Proof.Math
public import proofs.«01_k».proof.Proof.Gen.ReferenceIdeal.Frame

/-!
# The values the reference stores, entry by entry
-/

@[expose] public section

set_option maxRecDepth 16384

noncomputable section

namespace Cert.Value

open Idealize.ShloMosaic Idealize.ShloMosaic.TcCoe Idealize.ShloMosaic.Tactic

namespace R
open Cert.ReferenceIdeal Cert.ReferenceIdeal.Gen

/-- The scales of the rows of an array of `a` by `b` rows. -/
def scales {a b : Nat} (x : Vec Ideal ⟨3, ![a, b, 2048]⟩ .bf16)
    (h : Shape.Reduces ⟨3, ![a, b, 2048]⟩ [2] ⟨2, ![a, b]⟩) : FVec Ideal ⟨2, ![a, b]⟩ .f32 :=
  have v1 := extf .f32 x bitsLt_bf16_f32
  have v2 := absf v1
  have v3 : FVec Ideal ⟨2, ![a, b]⟩ .f32 := multiReduction .maximumf [2] ⟨2, ![a, b]⟩ v2 0xFF800000#32 h (.inl rfl) rfl
  have v4 := broadcast ⟨2, ![a, b]⟩ (Scalar.ofBits .f32 0x00000000#32)
  have v5 := cmpf .oeq v3 v4
  have v6 := broadcast ⟨2, ![a, b]⟩ (Scalar.ofBits .f32 0x42FE0000#32)
  have v7 := divf v3 v6
  have v8 := broadcast ⟨2, ![a, b]⟩ (Scalar.ofBits .f32 0x3F800000#32)
  select v5 v8 v7

/-- The scale of a row, at any batch and sequence length. -/
theorem scales_apply {a b : Nat} (x : Vec Ideal ⟨3, ![a, b, 2048]⟩ .bf16) (h) (r : Fin a) (l : Fin b) :
    scales x h (ix2 r l) = scaleOf fun k => x (ix3 r l k) := by
  pointwise [scales]
  rfl

/-- The stored scales are `scales` at the actual sizes. -/
theorem pay2_eq (x : Vec Ideal S8x1920x2048 .bf16) :
    k0_pay2 (F := Ideal) x = scales (a := 8) (b := 1920) x reduces_S8x1920x2048_S8x1920 := rfl

/-- An entry of the stored scales. -/
theorem scale_apply (x : Vec Ideal S8x1920x2048 .bf16) (r : Fin 8) (l : Fin 1920) :
    k0_pay2 (F := Ideal) x (ix2 r l) = scaleOf fun k => x (ix3 r l k) :=
  (congrFun (pay2_eq x) _).trans (scales_apply x _ r l)

/-- The codes of the rows of an array of `a` by `b` rows, from the scales `v9`. -/
def codes {a b : Nat} (x : Vec Ideal ⟨3, ![a, b, 2048]⟩ .bf16) (v9 : FVec Ideal ⟨2, ![a, b]⟩ .f32)
    (h : Shape.ShapeCasts ⟨2, ![a, b]⟩ ⟨3, ![a, b, 1]⟩)
    (h' : Shape.Broadcasts ⟨3, ![a, b, 1]⟩ ⟨3, ![a, b, 2048]⟩) : IVec ⟨3, ![a, b, 2048]⟩ 8 :=
  have v1 := extf .f32 x bitsLt_bf16_f32
  have v10 := shapeCast ⟨3, ![a, b, 1]⟩ v9 h
  have v11 := broadcastTo ⟨3, ![a, b, 2048]⟩ v10 h'
  have v12 := divf v1 v11
  have v13 := roundeven v12
  have v14 := broadcast ⟨3, ![a, b, 2048]⟩ (Scalar.ofBits .f32 0xC2FE0000#32)
  have v15 := maximumf v14 v13
  have v16 := broadcast ⟨3, ![a, b, 2048]⟩ (Scalar.ofBits .f32 0x42FE0000#32)
  have v17 := minimumf v16 v15
  fptosi 8 v17

/-- An entry of the codes, over any array of scales. -/
theorem codes_apply (x : Vec Ideal S8x1920x2048 .bf16) (v9 : FVec Ideal S8x1920 .f32) (h) (h')
    (r : Fin 8) (l : Fin 1920) (n : Fin 2048) :
    codes (a := 8) (b := 1920) x v9 h h' (ix3 r l n)
      = FloatOps.fptosi (F := Ideal) (φ := FTy.f32) 8
          (clipped (Ideal.div (x (ix3 r l n)) (v9 (ix2 r l)))) := by
  pointwise [codes]
  rfl

/-- The stored codes are `codes` of the stored scales. -/
theorem pay3_eq (x : Vec Ideal S8x1920x2048 .bf16) :
    k0_pay3 (F := Ideal) x = codes (a := 8) (b := 1920) x (k0_pay2 x)
      shapeCasts_S8x1920_S8x1920x1 broadcasts_S8x1920x1_S8x1920x2048 := rfl

/-- An entry of the stored codes. -/
theorem code_apply (x : Vec Ideal S8x1920x2048 .bf16) (r : Fin 8) (l : Fin 1920) (n : Fin 2048) :
    k0_pay3 (F := Ideal) x (ix3 r l n) = codeOf (fun k => x (ix3 r l k)) n := by
  rw [pay3_eq]
  refine (codes_apply _ _ _ _ _ _ _).trans ?_
  rw [scale_apply]
  rfl

/-- The contraction of the reference: four stretches of 512 of `n` columns and of `a` by `b` rows. -/
def dotDims {a b n : Nat} (wf : DotDims.WF ⟨3, ![4, 512, n]⟩ ⟨4, ![a, b, 4, 512]⟩ ⟨4, ![4, n, a, b]⟩
    [1] [3] [2] [0, 1] [0] [2]) :
    DotDims ⟨3, ![4, 512, n]⟩ ⟨4, ![a, b, 4, 512]⟩ ⟨4, ![4, n, a, b]⟩ where
  lhsContracting := [1]
  rhsContracting := [3]
  lhsNonContracting := [2]
  rhsNonContracting := [0, 1]
  lhsBatch := [0]
  rhsBatch := [2]
  wf := wf

/-- The four stretches' product sums, as 32 bit words. -/
def words {a b n : Nat} (c : IVec ⟨3, ![a, b, 2048]⟩ 8) (w : IVec ⟨2, ![2048, n]⟩ 8)
    (wf : DotDims.WF ⟨3, ![4, 512, n]⟩ ⟨4, ![a, b, 4, 512]⟩ ⟨4, ![4, n, a, b]⟩
      [1] [3] [2] [0, 1] [0] [2])
    (h₁ : Shape.ShapeCasts ⟨3, ![a, b, 2048]⟩ ⟨4, ![a, b, 4, 512]⟩)
    (h₂ : Shape.ShapeCasts ⟨2, ![2048, n]⟩ ⟨3, ![4, 512, n]⟩)
    (h₃ : Shape.Transposes ⟨4, ![4, n, a, b]⟩ [2, 3, 0, 1] ⟨4, ![a, b, 4, n]⟩) :
    IVec ⟨4, ![a, b, 4, n]⟩ 32 :=
  have v21 : FVec Ideal ⟨3, ![a, b, 2048]⟩ .bf16 := sitofp .bf16 c
  have v22 := shapeCast ⟨4, ![a, b, 4, 512]⟩ v21 h₁
  have v24 : FVec Ideal ⟨2, ![2048, n]⟩ .bf16 := sitofp .bf16 w
  have v25 := shapeCast ⟨3, ![4, 512, n]⟩ v24 h₂
  have cst := constant ⟨4, ![4, n, a, b]⟩ .f32 0x00000000#32
  have v26 : FVec Ideal ⟨4, ![4, n, a, b]⟩ .f32 := matmul (dotDims wf) none v25 v22 cst
  have v27 := transpose ⟨4, ![a, b, 4, n]⟩ [2, 3, 0, 1] v26 h₃
  fptosi 32 v27

/-- A partial product of one chunk of 512, as a 32-bit integer. -/
theorem words_apply (c : IVec S8x1920x2048 8) (w : IVec S2048x5632 8)
    (wf) (h₁) (h₂) (h₃) (r : Fin 8) (l : Fin 1920) (q : Fin 4) (j : Fin 5632) :
    words (a := 8) (b := 1920) (n := 5632) c w wf h₁ h₂ h₃ (ix4 r l q j)
      = FloatOps.fptosi (F := Ideal) (φ := FTy.f32) 32
          (∑ k : Fin 512, (((w (ix2 ⟨q.val * 512 + k.val, by omega⟩ j)).toInt : ℝ) : EReal)
            * (((c (ix3 r l ⟨q.val * 512 + k.val, by omega⟩)).toInt : ℝ) : EReal)) := by
  pointwise [words, dotDims]
  rfl

/-- The stretches' words added up, times the rows' scales and the columns' scales. -/
def products {a b n : Nat} (v28 : IVec ⟨4, ![a, b, 4, n]⟩ 32) (v9 : FVec Ideal ⟨2, ![a, b]⟩ .f32)
    (v34 : Vec Ideal ⟨1, ![n]⟩ .f32)
    (h₁ : Shape.Reduces ⟨4, ![a, b, 4, n]⟩ [2] ⟨3, ![a, b, n]⟩)
    (h₂ : Shape.ShapeCasts ⟨2, ![a, b]⟩ ⟨3, ![a, b, 1]⟩)
    (h₃ : Shape.Broadcasts ⟨3, ![a, b, 1]⟩ ⟨3, ![a, b, n]⟩)
    (h₄ : Shape.ShapeCasts ⟨1, ![n]⟩ ⟨3, ![1, 1, n]⟩)
    (h₅ : Shape.Broadcasts ⟨3, ![1, 1, n]⟩ ⟨3, ![a, b, n]⟩) : FVec Ideal ⟨3, ![a, b, n]⟩ .bf16 :=
  have v29 : IVec ⟨3, ![a, b, n]⟩ 32 := multiReductionI .add [2] ⟨3, ![a, b, n]⟩ v28 0#32 h₁ rfl
  have v30 : FVec Ideal ⟨3, ![a, b, n]⟩ .f32 := sitofp .f32 v29
  have v31 := shapeCast ⟨3, ![a, b, 1]⟩ v9 h₂
  have v32 := broadcastTo ⟨3, ![a, b, n]⟩ v31 h₃
  have v33 := mulf v30 v32
  have v35 := shapeCast ⟨3, ![1, 1, n]⟩ v34 h₄
  have v36 := broadcastTo ⟨3, ![a, b, n]⟩ v35 h₅
  have v37 := mulf v33 v36
  truncf .bf16 v37 bitsLt_bf16_f32

/-- The four partial products summed, then scaled. -/
theorem products_apply (v28 : IVec S8x1920x4x5632 32)
    (v9 : FVec Ideal S8x1920 .f32) (v34 : Vec Ideal S5632 .f32) (h₁) (h₂) (h₃) (h₄) (h₅)
    (r : Fin 8) (l : Fin 1920) (j : Fin 5632) :
    products (a := 8) (b := 1920) (n := 5632) v28 v9 v34 h₁ h₂ h₃ h₄ h₅ (ix3 r l j)
      = (((Finset.fold IntOp.addi (0#32) (fun q : Fin 4 => v28 (ix4 r l q j)) Finset.univ).toInt
            : ℝ) : EReal) * v9 (ix2 r l) * v34 (ix1 j) := by
  pointwise [products]
  rfl

/-- The stored product is `products` of `words` of the stored codes. -/
theorem pay4_eq (x : Vec Ideal S8x1920x2048 .bf16) (w : Vec Ideal S2048x5632 .i8)
    (s : Vec Ideal S5632 .f32) :
    k0_pay4 (F := Ideal) x w s
      = products (a := 8) (b := 1920) (n := 5632)
          (words (a := 8) (b := 1920) (n := 5632) (k0_pay3 x) w
            dot_S4x512x5632_S8x1920x4x512_S4x5632x8x1920_1_3_2_01_0_2_wf
            shapeCasts_S8x1920x2048_S8x1920x4x512 shapeCasts_S2048x5632_S4x512x5632
            transposes_S4x5632x8x1920_p2_3_0_1_S8x1920x4x5632)
          (k0_pay2 x) s reduces_S8x1920x4x5632_S8x1920x5632 shapeCasts_S8x1920_S8x1920x1
          broadcasts_S8x1920x1_S8x1920x5632 shapeCasts_S5632_S1x1x5632
          broadcasts_S1x1x5632_S8x1920x5632 := rfl

/-- An entry of the stored product. -/
theorem prod_apply (x : Vec Ideal S8x1920x2048 .bf16) (w : Vec Ideal S2048x5632 .i8)
    (s : Vec Ideal S5632 .f32) (r : Fin 8) (l : Fin 1920) (j : Fin 5632) :
    k0_pay4 (F := Ideal) x w s (ix3 r l j)
      = dotOf (fun k => x (ix3 r l k)) (fun k => w (ix2 k j))
          * scaleOf (fun k => x (ix3 r l k)) * s (ix1 j) := by
  rw [pay4_eq]
  refine (products_apply _ _ _ _ _ _ _ _ _ _ _).trans ?_
  rw [scale_apply]
  refine congrArg (· * _ * _) ?_
  refine Eq.trans ?_ (words_dot (fun k => w (ix2 k j)) fun k => codeOf (fun k => x (ix3 r l k)) k)
  refine congrArg (fun z : BitVec 32 => ((z.toInt : ℝ) : EReal)) ?_
  refine congrArg (fun f => Finset.fold IntOp.addi (0#32) f Finset.univ) (funext fun q => ?_)
  refine (words_apply _ _ _ _ _ _ r l q j).trans ?_
  simp only [code_apply]
end R
end Cert.Value
end
-- ==== Proof.RRun.lean ====
module

public import proofs.«01_k».proof.Proof.RPay

/-!
# The results of the reference's program
-/

@[expose] public section

set_option maxRecDepth 16384

noncomputable section

namespace Cert.Value

open Idealize.ShloMosaic Idealize.ShloMosaic.TcCoe Idealize.ShloMosaic.Tactic

namespace R
open Cert.ReferenceIdeal Cert.ReferenceIdeal.Gen

variable (m : (ℓ : Loc nD τ sig) → Buf (Elt Ideal) ℓ) (c : Dev nD) (ρ : Dev nD → PrngReg)

/-- The input as launched. -/
abbrev X0 : Vec Ideal S8x1920x2048 .bf16 := m ((c : Thread nD τ).loc main_arg0)
/-- The weight as launched. -/
abbrev W0 : Vec Ideal S2048x5632 .i8 := m ((c : Thread nD τ).loc main_arg1)
/-- The weight's scales as launched. -/
abbrev S0 : Vec Ideal S5632 .f32 := m ((c : Thread nD τ).loc main_arg2)

/-! ## The stored values as functions -/

/-- The stored product is the specified one. -/
theorem y_eq (x : Vec Ideal S8x1920x2048 .bf16) (w : Vec Ideal S2048x5632 .i8)
    (s : Vec Ideal S5632 .f32) : k0_pay4 (F := Ideal) x w s = yOf x w s := by
  funext y
  obtain ⟨b, r, n, rfl⟩ : ∃ (b : Fin 8) (r : Fin 1920) (n : Fin 5632), y = ix3 b r n :=
    ⟨y 0, y 1, y 2, by funext a; fin_cases a <;> rfl⟩
  exact prod_apply x w s b r n

/-- The stored codes are the specified ones. -/
theorem codes_eq (x : Vec Ideal S8x1920x2048 .bf16) : k0_pay3 (F := Ideal) x = codesOf x := by
  funext y
  obtain ⟨b, r, n, rfl⟩ : ∃ (b : Fin 8) (r : Fin 1920) (n : Fin 2048), y = ix3 b r n :=
    ⟨y 0, y 1, y 2, by funext a; fin_cases a <;> rfl⟩
  exact code_apply x b r n

/-- The stored scales are the specified ones. -/
theorem scales_eq (x : Vec Ideal S8x1920x2048 .bf16) : k0_pay2 (F := Ideal) x = scalesOf x := by
  funext y
  obtain ⟨b, r, rfl⟩ : ∃ (b : Fin 8) (r : Fin 1920), y = ix2 b r :=
    ⟨y 0, y 1, by funext a; fin_cases a <;> rfl⟩
  exact scale_apply x b r

/-! ## The blocks: each window is the whole array -/

/-- The origin in one dimension. -/
theorem hz1 : (![0] : Fin 1 → Nat) = fun _ => 0 := funext fun a => by fin_cases a <;> rfl
/-- The origin in two dimensions. -/
theorem hz2 : (![0, 0] : Fin 2 → Nat) = fun _ => 0 := funext fun a => by fin_cases a <;> rfl
/-- The origin in three dimensions. -/
theorem hz3 : (![0, 0, 0] : Fin 3 → Nat) = fun _ => 0 := funext fun a => by fin_cases a <;> rfl

/-- The one step uses the block at the origin. -/
theorem index0 : ∀ t : Fin cfg0.N, win0_0.index t (0 : Fin 3) = 0 ∧ win0_0.index t (1 : Fin 3) = 0 ∧ win0_0.index t (2 : Fin 3) = 0 :=
  (by decide +kernel : ∀ t : Fin grid0.N, _)
/-- The one step uses the block at the origin. -/
theorem index1 : ∀ t : Fin cfg0.N, win0_1.index t (0 : Fin 2) = 0 ∧ win0_1.index t (1 : Fin 2) = 0 :=
  (by decide +kernel : ∀ t : Fin grid0.N, _)
/-- The one step uses the block at the origin. -/
theorem index2 : ∀ t : Fin cfg0.N, win0_2.index t (0 : Fin 1) = 0 :=
  (by decide +kernel : ∀ t : Fin grid0.N, _)
/-- The one step uses the block at the origin. -/
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
/-- The one step uses the block at the origin. -/
theorem index4 : ∀ t : Fin cfg0.N, win0_4.index t (0 : Fin 3) = 0 ∧ win0_4.index t (1 : Fin 3) = 0 ∧ win0_4.index t (2 : Fin 3) = 0 :=
  (by decide +kernel : ∀ t : Fin grid0.N, _)
/-- The one step uses the block at the origin. -/
theorem index5 : ∀ t : Fin cfg0.N, win0_5.index t (0 : Fin 2) = 0 ∧ win0_5.index t (1 : Fin 2) = 0 :=
  (by decide +kernel : ∀ t : Fin grid0.N, _)

/-- An index of the only block is the same index of the array. -/
theorem emb3 (t : Fin cfg0.N) (b : Fin 8) (r : Fin 1920) (k : Fin 5632) :
    ((cfg0.win 3).blk t).view.emb (ix3 b r k) = ix3 b r k := by
  have h := index3 t
  blk_ext [h.1, h.2.1, h.2.2]
/-- An index of the only block is the same index of the array. -/
theorem emb4 (t : Fin cfg0.N) (b : Fin 8) (r : Fin 1920) (k : Fin 2048) :
    ((cfg0.win 4).blk t).view.emb (ix3 b r k) = ix3 b r k := by
  have h := index4 t
  blk_ext [h.1, h.2.1, h.2.2]
/-- An index of the only block is the same index of the array. -/
theorem emb5 (t : Fin cfg0.N) (b : Fin 8) (r : Fin 1920) :
    ((cfg0.win 5).blk t).view.emb (ix2 b r) = ix2 b r := by
  have h := index5 t
  blk_ext [h.1, h.2]

/-- The only block of the activations is the whole array. -/
theorem iblk0_eq (t : Fin cfg0.N) : (iblk m c 0 t : Vec Ideal S8x1920x2048 .bf16) = X0 m c := by
  funext y
  obtain ⟨b, r, k, rfl⟩ : ∃ (b : Fin 8) (r : Fin 1920) (k : Fin 2048), y = ix3 b r k :=
    ⟨y 0, y 1, y 2, by funext a; fin_cases a <;> rfl⟩
  have h := index0 t
  blk_ext [iblk, h.1, h.2.1, h.2.2]

/-- The only block of the weight codes is the whole array. -/
theorem iblk1_eq (t : Fin cfg0.N) : (iblk m c 1 t : Vec Ideal S2048x5632 .i8) = W0 m c := by
  funext y
  obtain ⟨k, n, rfl⟩ : ∃ (k : Fin 2048) (n : Fin 5632), y = ix2 k n :=
    ⟨y 0, y 1, by funext a; fin_cases a <;> rfl⟩
  have h := index1 t
  blk_ext [iblk, h.1, h.2]

/-- The only block of the weight scales is the whole array. -/
theorem iblk2_eq (t : Fin cfg0.N) : (iblk m c 2 t : Vec Ideal S5632 .f32) = S0 m c := by
  funext y
  obtain ⟨n, rfl⟩ : ∃ (n : Fin 5632), y = ix1 n :=
    ⟨y 0, by funext a; fin_cases a <;> rfl⟩
  have h := index2 t
  blk_ext [iblk, h]

/-- The output array ends as the specified product. -/
theorem final_y : (dats m 0 c).arrAt 3 cfg0.N = yOf (X0 m c) (W0 m c) (S0 m c) := by
  refine (dats m 0 c).arrAt_eq_of_covers 3 _ (by decide +kernel) fun t hf y => ?_
  rw [after0_3]
  unfold out0_3
  rw [View.canon_unit_zero hz3, View.ld_unit_zero hz3, View.ld_unit_zero hz2, View.ld_unit_zero hz1,
    iblk0_eq, iblk1_eq, iblk2_eq, y_eq]
  obtain ⟨b, r, k, rfl⟩ : ∃ (b : Fin 8) (r : Fin 1920) (k : Fin 5632), y = ix3 b r k :=
    ⟨y 0, y 1, y 2, by funext a; fin_cases a <;> rfl⟩
  rw [emb3]
  rfl

/-- The array of codes ends as specified. -/
theorem final_codes : (dats m 0 c).arrAt 4 cfg0.N = codesOf (X0 m c) := by
  refine (dats m 0 c).arrAt_eq_of_covers 4 _ (by decide +kernel) fun t hf y => ?_
  rw [after0_4]
  unfold out0_4
  rw [View.canon_unit_zero hz3, View.ld_unit_zero hz3, iblk0_eq, codes_eq]
  obtain ⟨b, r, k, rfl⟩ : ∃ (b : Fin 8) (r : Fin 1920) (k : Fin 2048), y = ix3 b r k :=
    ⟨y 0, y 1, y 2, by funext a; fin_cases a <;> rfl⟩
  rw [emb4]
  rfl

/-- The array of scales ends as specified. -/
theorem final_scales : (dats m 0 c).arrAt 5 cfg0.N = scalesOf (X0 m c) := by
  refine (dats m 0 c).arrAt_eq_of_covers 5 _ (by decide +kernel) fun t hf y => ?_
  rw [after0_5]
  unfold out0_5
  rw [View.canon_unit_zero hz2, View.ld_unit_zero hz3, iblk0_eq, scales_eq]
  obtain ⟨b, r, rfl⟩ : ∃ (b : Fin 8) (r : Fin 1920), y = ix2 b r :=
    ⟨y 0, y 1, by funext a; fin_cases a <;> rfl⟩
  rw [emb5]
  rfl

/-- The run: the three results, and the arguments unchanged. -/
theorem run : θ_run defs (onTc (τ := τ) (main (F := Ideal))) ⟨m, fun _ => 0, ρ⟩ fun r =>
    ∀ c : Dev nD,
      r.2.mem ((c.tc : Thread nD τ).loc main_v0_0) = yOf (X0 m c) (W0 m c) (S0 m c)
      ∧ r.2.mem ((c.tc : Thread nD τ).loc main_v0_1) = codesOf (X0 m c)
      ∧ r.2.mem ((c.tc : Thread nD τ).loc main_v0_2) = scalesOf (X0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final_y m c),
      ((h.1 c).1 4).trans (final_codes m c), ((h.1 c).1 5).trans (final_scales m c), h.2 c⟩)
    (θ_run_and (run_main m ρ) (unchanged m ρ))

end R
end Cert.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Same
public import proofs.«01_k».proof.Proof.KRun
public import proofs.«01_k».proof.Proof.RRun
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The idealized kernel and the idealized reference, started from equal arguments, end with equal
products, codes and scales, the arguments unchanged. -/
theorem algebraic : letI := Cert.KernelIdeal.Gen.facts; letI := Cert.ReferenceIdeal.Gen.facts
    Cert.algebraic_KernelIdeal_ReferenceIdeal := by
  intro m g m' g' _ hagree
  refine ⟨fun c => Cert.Value.yOf (Cert.Value.K.X0 m c) (Cert.Value.K.W0 m c) (Cert.Value.K.S0 m c),
    fun c => Cert.Value.codesOf (Cert.Value.K.X0 m c),
    fun c => Cert.Value.scalesOf (Cert.Value.K.X0 m c), Cert.Value.K.run m g, ?_⟩
  refine (θ_run _ _ _).mono (fun r h c => ?_) (Cert.Value.R.run m' g')
  obtain ⟨h₀, h₁, h₂⟩ := hagree c
  have e₀ : Cert.Value.R.X0 m' c = Cert.Value.K.X0 m c := h₀
  have e₁ : Cert.Value.R.W0 m' c = Cert.Value.K.W0 m c := h₁
  have e₂ : Cert.Value.R.S0 m' c = Cert.Value.K.S0 m c := h₂
  have h := h c
  rw [e₀, e₁, e₂] at h
  exact h

theorem claim : Cert.Claim := ⟨Cert.Kernel.Gen.facts, Cert.KernelIdeal.Gen.facts, Cert.ReferenceIdeal.Gen.facts,
  fun m ρ _ => Cert.Kernel.Hand.frame_K m ρ, fun m ρ _ => Cert.KernelIdeal.Hand.frame_KI m ρ,
  fun m ρ _ => Cert.ReferenceIdeal.Gen.frame m ρ, trivial, algebraic⟩

end Cert.Proof

end
